-- ==== Defs.lean ====
def Pre_Kernel [hPre_segments_below_16 : Cert.Pre_segments_below_16.Facts] (m : (ℓ : Loc Cert.Kernel.nD Cert.Kernel.τ Cert.Kernel.sig) → Buf (Elt Bits) ℓ) : Prop :=
  ∀ c : Dev Cert.Kernel.nD,
    (Cert.Pre_segments_below_16.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_segments_below_16 : Cert.Pre_segments_below_16.Facts] (m : (ℓ : Loc Cert.KernelIdeal.nD Cert.KernelIdeal.τ Cert.KernelIdeal.sig) → Buf (Elt Ideal) ℓ) : Prop :=
  ∀ c : Dev Cert.KernelIdeal.nD,
    (Cert.Pre_segments_below_16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_segments_sorted [hPre_segments_sorted : Cert.Pre_segments_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_segments_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_sorted [hPre_segments_sorted : Cert.Pre_segments_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_segments_below_16 : Cert.Pre_segments_below_16.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_segments_below_16 : Cert.Pre_segments_below_16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_segments_sorted [hKernelIdeal : Cert.KernelIdeal.Facts] [hPre_segments_sorted : Cert.Pre_segments_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_segments_sorted [hReferenceIdeal : Cert.ReferenceIdeal.Facts] [hPre_segments_sorted : Cert.Pre_segments_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_segments_sorted [hKernelIdeal : Cert.KernelIdeal.Facts] [hReferenceIdeal : Cert.ReferenceIdeal.Facts] [hPre_segments_sorted : Cert.Pre_segments_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_segments_below_16 : Cert.Pre_segments_below_16.Facts) (hPre_segments_sorted : Cert.Pre_segments_sorted.Facts),
    quiescent_Kernel (hKernel := hKernel) (hPre_segments_below_16 := hPre_segments_below_16)
    ∧ quiescent_KernelIdeal (hKernelIdeal := hKernelIdeal) (hPre_segments_below_16 := hPre_segments_below_16)
    ∧ quiescent_KernelIdeal_pre_segments_sorted (hKernelIdeal := hKernelIdeal) (hPre_segments_sorted := hPre_segments_sorted)
    ∧ quiescent_ReferenceIdeal (hReferenceIdeal := hReferenceIdeal)
    ∧ quiescent_ReferenceIdeal_pre_segments_sorted (hReferenceIdeal := hReferenceIdeal) (hPre_segments_sorted := hPre_segments_sorted)
    ∧ preserves_Kernel_KernelIdeal
    ∧ algebraic_KernelIdeal_ReferenceIdeal_pre_segments_sorted (hKernelIdeal := hKernelIdeal) (hReferenceIdeal := hReferenceIdeal) (hPre_segments_sorted := hPre_segments_sorted)
-- ==== Pre_segments_below_16.lean ====
abbrev S32768x64 : Shape := ⟨2, ![32768, 64]⟩
abbrev S32768 : Shape := ⟨1, ![32768]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768x64 .f32) (main_arg1 : IVec S32768 32) (main_arg2 : FVec F S64x512 .f32) (main_arg3 : FVec F S512 .f32) (main_arg4 : FVec F S512x1024 .f32) (main_arg5 : FVec F S1024 .f32) : IVec S32768 1 :=
  let main_c : IVec S_ 32 := constantI S_ 32 16#32
  let main_v0 : IVec S32768 32 := broadcastInDim S32768 ![] bcast_S_S32768 main_c
  let main_v1 : IVec S32768 1 := cmpi .slt main_arg1 main_v0
  main_v1
-- ==== Pre_segments_sorted.lean ====
abbrev S32768x64 : Shape := ⟨2, ![32768, 64]⟩
abbrev S32768 : Shape := ⟨1, ![32768]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S1 : Shape := ⟨1, ![1]⟩
abbrev S32767 : Shape := ⟨1, ![32767]⟩
abbrev S_ : Shape := ⟨0, ![]⟩

class Facts : Prop where
  slices_S32768_S1_0 : S32768.Slices ![0] S1
  slices_S32768_S32767_0 : S32768.Slices ![0] S32767
  concatenates_S1_S32767_S32768_d0 : Shape.Concatenates [S1, S32767] S32768 0
  bcast_S_S32768 : S_.BroadcastsInDim S32768 (![] : Fin 0 → Fin S32768.rank)

variable [Facts]

def fn {F : FTy → Type} [FloatOps F] (main_arg0 : FVec F S32768x64 .f32) (main_arg1 : IVec S32768 32) (main_arg2 : FVec F S64x512 .f32) (main_arg3 : FVec F S512 .f32) (main_arg4 : FVec F S512x1024 .f32) (main_arg5 : FVec F S1024 .f32) : IVec S32768 1 :=
  let main_v0 : IVec S1 32 := (extractStridedSlice S1 ![0] · slices_S32768_S1_0) main_arg1
  let main_v1 : IVec S32767 32 := (extractStridedSlice S32767 ![0] · slices_S32768_S32767_0) main_arg1
  let main_v2 : IVec S32768 32 := (fun a b => concatenate S32768 0 [⟨S1, a⟩, ⟨S32767, b⟩] concatenates_S1_S32767_S32768_d0) main_v0 main_v1
  let main_c : IVec S_ 32 := constantI S_ 32 0#32
  let main_v3 : IVec S32768 32 := broadcastInDim S32768 ![] bcast_S_S32768 main_c
  let main_v4 : IVec S32768 1 := cmpi .sge main_arg1 main_v3
  let main_c_0 : IVec S_ 32 := constantI S_ 32 16#32
  let main_v5 : IVec S32768 32 := broadcastInDim S32768 ![] bcast_S_S32768 main_c_0
  let main_v6 : IVec S32768 1 := cmpi .slt main_arg1 main_v5
  let main_v7 : IVec S32768 1 := andi main_v4 main_v6
  let main_v8 : IVec S32768 1 := cmpi .sle main_v2 main_arg1
  let main_v9 : IVec S32768 1 := andi main_v7 main_v8
  main_v9
-- ==== Kernel.lean ====
abbrev S32768x64 : Shape := ⟨2, ![32768, 64]⟩
abbrev S32768 : Shape := ⟨1, ![32768]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S17 : Shape := ⟨1, ![17]⟩
abbrev S17x1 : Shape := ⟨2, ![17, 1]⟩
abbrev S1x32768 : Shape := ⟨2, ![1, 32768]⟩
abbrev S17x32768 : Shape := ⟨2, ![17, 32768]⟩
abbrev S_ : Shape := ⟨0, ![]⟩
abbrev S1x512 : Shape := ⟨2, ![1, 512]⟩
abbrev S1x1024 : Shape := ⟨2, ![1, 1024]⟩
abbrev S16x1024 : Shape := ⟨2, ![16, 1024]⟩
abbrev S16x256x4 : Shape := ⟨3, ![16, 256, 4]⟩
abbrev S2048x64 : Shape := ⟨2, ![2048, 64]⟩
abbrev S16x512 : Shape := ⟨2, ![16, 512]⟩
abbrev S2048x512 : Shape := ⟨2, ![2048, 512]⟩
abbrev S16x1 : Shape := ⟨2, ![16, 1]⟩
abbrev S1 : Shape := ⟨1, ![1]⟩
abbrev S2048x1 : Shape := ⟨2, ![2048, 1]⟩

abbrev nBuf : Space → Nat
  | .hbm => 18
  | .vmem => 10
  | .smem => 1
  | _ => 0

abbrev bufTy : (tb : Table) → Fin (tcTables nBuf tb) → BufTy
  | .hbm, ⟨0, _⟩ => ⟨S32768x64, .f32⟩
  | .hbm, ⟨1, _⟩ => ⟨S32768, .i32⟩
  | .hbm, ⟨2, _⟩ => ⟨S64x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S17, .i32⟩
  | .hbm, ⟨7, _⟩ => ⟨S17x1, .i32⟩
  | .hbm, ⟨8, _⟩ => ⟨S1x32768, .i32⟩
  | .hbm, ⟨9, _⟩ => ⟨S17x32768, .i32⟩
  | .hbm, ⟨10, _⟩ => ⟨S17x32768, .i32⟩
  | .hbm, ⟨11, _⟩ => ⟨S17x32768, .i1⟩
  | .hbm, ⟨12, _⟩ => ⟨S17x32768, .i32⟩
  | .hbm, ⟨13, _⟩ => ⟨S_, .i32⟩
  | .hbm, ⟨14, _⟩ => ⟨S1x512, .f32⟩
  | .hbm, ⟨15, _⟩ => ⟨S1x1024, .f32⟩
  | .hbm, ⟨16, _⟩ => ⟨S16x1024, .f32⟩
  | .hbm, ⟨17, _⟩ => ⟨S16x256x4, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S16x1024, .f32⟩
  | .local _ .vmem, ⟨4, _⟩ => ⟨S16x512, .f32⟩
  | .local _ .vmem, ⟨5, _⟩ => ⟨S2048x512, .f32⟩
  | .local _ .vmem, ⟨6, _⟩ => ⟨S2048x512, .f32⟩
  | .local _ .vmem, ⟨7, _⟩ => ⟨S512x1024, .f32⟩
  | .local _ .vmem, ⟨8, _⟩ => ⟨S1x512, .f32⟩
  | .local _ .vmem, ⟨9, _⟩ => ⟨S1x1024, .f32⟩
  | .local _ .smem, ⟨0, _⟩ => ⟨S17, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call0_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_call0_v7.idx], fun | 0 => main_call0_v7.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 32 := Scalar.extui v14
  let c0_i32_6 : BitVec 32 := 0#32
  let v16 : BitVec 1 := Scalar.cmpi .ne v15 c0_i32_6
  v16

def k0_cond3 (i : grid0.Coords) : BitVec 1 :=
  let arg0 : BitVec 32 := BitVec.ofNat 32 (i 0).val
  let c0_i32_21 : BitVec 32 := 0#32
  let v41 : BitVec 1 := Scalar.cmpi .sgt arg0 c0_i32_21
  let v42 : BitVec 32 := Scalar.extui v41
  let c0_i32_22 : BitVec 32 := 0#32
  let v43 : BitVec 1 := Scalar.cmpi .ne v42 c0_i32_22
  v43

def k0_off1 (i : grid0.Coords) (v46 : BitVec 32) (v55 : BitVec 32) (v64 : BitVec 32) (v73 : BitVec 32) (v82 : BitVec 32) (v91 : BitVec 32) (v100 : BitVec 32) (v109 : BitVec 32) (v118 : BitVec 32) (v127 : BitVec 32) (v136 : BitVec 32) (v145 : BitVec 32) (v154 : BitVec 32) (v163 : BitVec 32) (v172 : BitVec 32) (v181 : BitVec 32) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c1_i32_59 : BitVec 32 := 1#32
  let v194 : BitVec 32 := Scalar.addi v184 c1_i32_59
  let v195 : Index := Scalar.indexCast v194
  ![v195.toNat]

def k0_chk1 (i : grid0.Coords) (v46 : BitVec 32) (v55 : BitVec 32) (v64 : BitVec 32) (v73 : BitVec 32) (v82 : BitVec 32) (v91 : BitVec 32) (v100 : BitVec 32) (v109 : BitVec 32) (v118 : BitVec 32) (v127 : BitVec 32) (v136 : BitVec 32) (v145 : BitVec 32) (v154 : BitVec 32) (v163 : BitVec 32) (v172 : BitVec 32) (v181 : BitVec 32) : Prop :=
  (∀ (k0_h2 : k0_cond2 i = 1#1), ∀ (k0_h3 : k0_cond3 i = 1#1), ∀ a, (k0_off1 i v46 v55 v64 v73 v82 v91 v100 v109 v118 v127 v136 v145 v154 v163 v172 v181) a + S1.size a ≤ S17.size a)
theorem k0_off1_inb : ∀ (i : grid0.Coords) (v46 : BitVec 32) (v55 : BitVec 32) (v64 : BitVec 32) (v73 : BitVec 32) (v82 : BitVec 32) (v91 : BitVec 32) (v100 : BitVec 32) (v109 : BitVec 32) (v118 : BitVec 32) (v127 : BitVec 32) (v136 : BitVec 32) (v145 : BitVec 32) (v154 : BitVec 32) (v163 : BitVec 32) (v172 : BitVec 32) (v181 : BitVec 32) (k0_hw1 : k0_chk1 i v46 v55 v64 v73 v82 v91 v100 v109 v118 v127 v136 v145 v154 v163 v172 v181), ∀ (k0_h2 : k0_cond2 i = 1#1), ∀ (k0_h3 : k0_cond3 i = 1#1), ∀ a, (k0_off1 i v46 v55 v64 v73 v82 v91 v100 v109 v118 v127 v136 v145 v154 v163 v172 v181) a + S1.size a ≤ S17.size a := fun i v46 v55 v64 v73 v82 v91 v100 v109 v118 v127 v136 v145 v154 v163 v172 v181 k0_hw1 k0_h2 k0_h3 => k0_hw1 k0_h2 k0_h3

def k0_off2 (i : grid0.Coords) (v46 : BitVec 32) (v55 : BitVec 32) (v64 : BitVec 32) (v73 : BitVec 32) (v82 : BitVec 32) (v91 : BitVec 32) (v100 : BitVec 32) (v109 : BitVec 32) (v118 : BitVec 32) (v127 : BitVec 32) (v136 : BitVec 32) (v145 : BitVec 32) (v154 : BitVec 32) (v163 : BitVec 32) (v172 : BitVec 32) (v181 : BitVec 32) (c1_i32_70 : BitVec 32) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let v225 : BitVec 32 := Scalar.addi v184 c1_i32_70
  let v226 : Index := Scalar.indexCast v225
  ![v226.toNat]
def k0_cond4 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) : BitVec 1 :=
  let c0_i32_26 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c0_i32_24 : BitVec 32 := 0#32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let v218 : BitVec 1 := Scalar.cmpi .sgt v189 v184
  let v219 : BitVec 32 := Scalar.extui v218
  let c0_i32_67 : BitVec 32 := 0#32
  let v220 : BitVec 1 := Scalar.cmpi .ne v219 c0_i32_67
  v220

@[reducible] def k0_t1_loop (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) : Scf.Loop 32 :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c0_i32_26 : BitVec 32 := 0#32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c1_i32_71 : BitVec 32 := 1#32
  let v226 : BitVec 32 := Scalar.addi v189 c1_i32_71
  let v227 : BitVec 32 := Scalar.subi v226 v225
  let c1_i32_73 : BitVec 32 := 1#32
  let v229 : BitVec 32 := Scalar.divsi v227 c1_i32_73
  let v230 : BitVec 32 := Scalar.muli v229 c1_i32_73
  let v231 : BitVec 32 := Scalar.addi v225 v230
  let c1_i32_74 : BitVec 32 := 1#32
  ⟨v225, v231, c1_i32_74⟩
def k0_cond5 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) : BitVec 1 :=
  let c0_i32_26 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c0_i32_24 : BitVec 32 := 0#32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c1_i32_68 : BitVec 32 := 1#32
  let v221 : BitVec 32 := Scalar.addi v184 c1_i32_68
  let v222 : BitVec 1 := Scalar.cmpi .sgt v189 v221
  let v223 : BitVec 32 := Scalar.extui v222
  let c0_i32_69 : BitVec 32 := 0#32
  let v224 : BitVec 1 := Scalar.cmpi .ne v223 c0_i32_69
  v224

def k0_off3 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_t1 : Fin (k0_t1_loop i v46 v50 v55 v59 v64 v68 v73 v77 v82 v86 v91 v95 v100 v104 v109 v113 v118 v122 v127 v131 v136 v140 v145 v149 v154 v158 v163 v167 v172 v176 v181 v185).trips) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c1_i32_74 : BitVec 32 := 1#32
  let arg17 : BitVec 32 := Scf.iv v225 c1_i32_74 k0_t1
  let v232 : Index := Scalar.indexCast arg17
  ![v232.toNat]
def k0_off4 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_t1 : Fin (k0_t1_loop i v46 v50 v55 v59 v64 v68 v73 v77 v82 v86 v91 v95 v100 v104 v109 v113 v118 v122 v127 v131 v136 v140 v145 v149 v154 v158 v163 v167 v172 v176 v181 v185).trips) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c1_i32_74 : BitVec 32 := 1#32
  let arg17 : BitVec 32 := Scf.iv v225 c1_i32_74 k0_t1
  let c1_i32_76 : BitVec 32 := 1#32
  let v236 : BitVec 32 := Scalar.addi arg17 c1_i32_76
  let v237 : Index := Scalar.indexCast v236
  ![v237.toNat]
@[reducible] def k0_t2_loop (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) : Scf.Loop 32 :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c0_i32_26 : BitVec 32 := 0#32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c1_i32_71 : BitVec 32 := 1#32
  let v226 : BitVec 32 := Scalar.addi v189 c1_i32_71
  let v227 : BitVec 32 := Scalar.subi v226 v225
  let c1_i32_73 : BitVec 32 := 1#32
  let v229 : BitVec 32 := Scalar.divsi v227 c1_i32_73
  let v230 : BitVec 32 := Scalar.muli v229 c1_i32_73
  let v231 : BitVec 32 := Scalar.addi v225 v230
  let v228 : BitVec 32 := Scalar.addi v225 v227
  let c1_i32_75 : BitVec 32 := 1#32
  ⟨v231, v228, c1_i32_75⟩
def k0_off5 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_t2 : Fin (k0_t2_loop i v46 v50 v55 v59 v64 v68 v73 v77 v82 v86 v91 v95 v100 v104 v109 v113 v118 v122 v127 v131 v136 v140 v145 v149 v154 v158 v163 v167 v172 v176 v181 v185).trips) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c0_i32_26 : BitVec 32 := 0#32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c1_i32_71 : BitVec 32 := 1#32
  let v226 : BitVec 32 := Scalar.addi v189 c1_i32_71
  let v227 : BitVec 32 := Scalar.subi v226 v225
  let c1_i32_73 : BitVec 32 := 1#32
  let v229 : BitVec 32 := Scalar.divsi v227 c1_i32_73
  let v230 : BitVec 32 := Scalar.muli v229 c1_i32_73
  let v231 : BitVec 32 := Scalar.addi v225 v230
  let c1_i32_75 : BitVec 32 := 1#32
  let arg17 : BitVec 32 := Scf.iv v231 c1_i32_75 k0_t2
  let v232 : Index := Scalar.indexCast arg17
  ![v232.toNat]
def k0_off6 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_t2 : Fin (k0_t2_loop i v46 v50 v55 v59 v64 v68 v73 v77 v82 v86 v91 v95 v100 v104 v109 v113 v118 v122 v127 v131 v136 v140 v145 v149 v154 v158 v163 v167 v172 v176 v181 v185).trips) : Fin 1 → Nat :=
  let c0_i32_24 : BitVec 32 := 0#32
  let arg0 : BitVec 32 := BitVec.ofNat 32 (i 0).val
  let c1_i32_23 : BitVec 32 := 1#32
  let v44 : BitVec 32 := Scalar.subi arg0 c1_i32_23
  let c2048_i32 : BitVec 32 := 2048#32
  let v45 : BitVec 32 := Scalar.muli v44 c2048_i32
  let v47 : BitVec 1 := Scalar.cmpi .sle v46 v45
  let v48 : BitVec 32 := Scalar.extui v47
  let v49 : BitVec 32 := Scalar.addi c0_i32_24 v48
  let v56 : BitVec 1 := Scalar.cmpi .sle v55 v45
  let v57 : BitVec 32 := Scalar.extui v56
  let v58 : BitVec 32 := Scalar.addi v49 v57
  let v65 : BitVec 1 := Scalar.cmpi .sle v64 v45
  let v66 : BitVec 32 := Scalar.extui v65
  let v67 : BitVec 32 := Scalar.addi v58 v66
  let v74 : BitVec 1 := Scalar.cmpi .sle v73 v45
  let v75 : BitVec 32 := Scalar.extui v74
  let v76 : BitVec 32 := Scalar.addi v67 v75
  let v83 : BitVec 1 := Scalar.cmpi .sle v82 v45
  let v84 : BitVec 32 := Scalar.extui v83
  let v85 : BitVec 32 := Scalar.addi v76 v84
  let v92 : BitVec 1 := Scalar.cmpi .sle v91 v45
  let v93 : BitVec 32 := Scalar.extui v92
  let v94 : BitVec 32 := Scalar.addi v85 v93
  let v101 : BitVec 1 := Scalar.cmpi .sle v100 v45
  let v102 : BitVec 32 := Scalar.extui v101
  let v103 : BitVec 32 := Scalar.addi v94 v102
  let v110 : BitVec 1 := Scalar.cmpi .sle v109 v45
  let v111 : BitVec 32 := Scalar.extui v110
  let v112 : BitVec 32 := Scalar.addi v103 v111
  let v119 : BitVec 1 := Scalar.cmpi .sle v118 v45
  let v120 : BitVec 32 := Scalar.extui v119
  let v121 : BitVec 32 := Scalar.addi v112 v120
  let v128 : BitVec 1 := Scalar.cmpi .sle v127 v45
  let v129 : BitVec 32 := Scalar.extui v128
  let v130 : BitVec 32 := Scalar.addi v121 v129
  let v137 : BitVec 1 := Scalar.cmpi .sle v136 v45
  let v138 : BitVec 32 := Scalar.extui v137
  let v139 : BitVec 32 := Scalar.addi v130 v138
  let v146 : BitVec 1 := Scalar.cmpi .sle v145 v45
  let v147 : BitVec 32 := Scalar.extui v146
  let v148 : BitVec 32 := Scalar.addi v139 v147
  let v155 : BitVec 1 := Scalar.cmpi .sle v154 v45
  let v156 : BitVec 32 := Scalar.extui v155
  let v157 : BitVec 32 := Scalar.addi v148 v156
  let v164 : BitVec 1 := Scalar.cmpi .sle v163 v45
  let v165 : BitVec 32 := Scalar.extui v164
  let v166 : BitVec 32 := Scalar.addi v157 v165
  let v173 : BitVec 1 := Scalar.cmpi .sle v172 v45
  let v174 : BitVec 32 := Scalar.extui v173
  let v175 : BitVec 32 := Scalar.addi v166 v174
  let v182 : BitVec 1 := Scalar.cmpi .sle v181 v45
  let v183 : BitVec 32 := Scalar.extui v182
  let v184 : BitVec 32 := Scalar.addi v175 v183
  let c2_i32_70 : BitVec 32 := 2#32
  let v225 : BitVec 32 := Scalar.addi v184 c2_i32_70
  let c0_i32_26 : BitVec 32 := 0#32
  let c2047_i32 : BitVec 32 := 2047#32
  let v51 : BitVec 32 := Scalar.addi v45 c2047_i32
  let v52 : BitVec 1 := Scalar.cmpi .sle v50 v51
  let v53 : BitVec 32 := Scalar.extui v52
  let v54 : BitVec 32 := Scalar.addi c0_i32_26 v53
  let c2047_i32_28 : BitVec 32 := 2047#32
  let v60 : BitVec 32 := Scalar.addi v45 c2047_i32_28
  let v61 : BitVec 1 := Scalar.cmpi .sle v59 v60
  let v62 : BitVec 32 := Scalar.extui v61
  let v63 : BitVec 32 := Scalar.addi v54 v62
  let c2047_i32_30 : BitVec 32 := 2047#32
  let v69 : BitVec 32 := Scalar.addi v45 c2047_i32_30
  let v70 : BitVec 1 := Scalar.cmpi .sle v68 v69
  let v71 : BitVec 32 := Scalar.extui v70
  let v72 : BitVec 32 := Scalar.addi v63 v71
  let c2047_i32_32 : BitVec 32 := 2047#32
  let v78 : BitVec 32 := Scalar.addi v45 c2047_i32_32
  let v79 : BitVec 1 := Scalar.cmpi .sle v77 v78
  let v80 : BitVec 32 := Scalar.extui v79
  let v81 : BitVec 32 := Scalar.addi v72 v80
  let c2047_i32_34 : BitVec 32 := 2047#32
  let v87 : BitVec 32 := Scalar.addi v45 c2047_i32_34
  let v88 : BitVec 1 := Scalar.cmpi .sle v86 v87
  let v89 : BitVec 32 := Scalar.extui v88
  let v90 : BitVec 32 := Scalar.addi v81 v89
  let c2047_i32_36 : BitVec 32 := 2047#32
  let v96 : BitVec 32 := Scalar.addi v45 c2047_i32_36
  let v97 : BitVec 1 := Scalar.cmpi .sle v95 v96
  let v98 : BitVec 32 := Scalar.extui v97
  let v99 : BitVec 32 := Scalar.addi v90 v98
  let c2047_i32_38 : BitVec 32 := 2047#32
  let v105 : BitVec 32 := Scalar.addi v45 c2047_i32_38
  let v106 : BitVec 1 := Scalar.cmpi .sle v104 v105
  let v107 : BitVec 32 := Scalar.extui v106
  let v108 : BitVec 32 := Scalar.addi v99 v107
  let c2047_i32_40 : BitVec 32 := 2047#32
  let v114 : BitVec 32 := Scalar.addi v45 c2047_i32_40
  let v115 : BitVec 1 := Scalar.cmpi .sle v113 v114
  let v116 : BitVec 32 := Scalar.extui v115
  let v117 : BitVec 32 := Scalar.addi v108 v116
  let c2047_i32_42 : BitVec 32 := 2047#32
  let v123 : BitVec 32 := Scalar.addi v45 c2047_i32_42
  let v124 : BitVec 1 := Scalar.cmpi .sle v122 v123
  let v125 : BitVec 32 := Scalar.extui v124
  let v126 : BitVec 32 := Scalar.addi v117 v125
  let c2047_i32_44 : BitVec 32 := 2047#32
  let v132 : BitVec 32 := Scalar.addi v45 c2047_i32_44
  let v133 : BitVec 1 := Scalar.cmpi .sle v131 v132
  let v134 : BitVec 32 := Scalar.extui v133
  let v135 : BitVec 32 := Scalar.addi v126 v134
  let c2047_i32_46 : BitVec 32 := 2047#32
  let v141 : BitVec 32 := Scalar.addi v45 c2047_i32_46
  let v142 : BitVec 1 := Scalar.cmpi .sle v140 v141
  let v143 : BitVec 32 := Scalar.extui v142
  let v144 : BitVec 32 := Scalar.addi v135 v143
  let c2047_i32_48 : BitVec 32 := 2047#32
  let v150 : BitVec 32 := Scalar.addi v45 c2047_i32_48
  let v151 : BitVec 1 := Scalar.cmpi .sle v149 v150
  let v152 : BitVec 32 := Scalar.extui v151
  let v153 : BitVec 32 := Scalar.addi v144 v152
  let c2047_i32_50 : BitVec 32 := 2047#32
  let v159 : BitVec 32 := Scalar.addi v45 c2047_i32_50
  let v160 : BitVec 1 := Scalar.cmpi .sle v158 v159
  let v161 : BitVec 32 := Scalar.extui v160
  let v162 : BitVec 32 := Scalar.addi v153 v161
  let c2047_i32_52 : BitVec 32 := 2047#32
  let v168 : BitVec 32 := Scalar.addi v45 c2047_i32_52
  let v169 : BitVec 1 := Scalar.cmpi .sle v167 v168
  let v170 : BitVec 32 := Scalar.extui v169
  let v171 : BitVec 32 := Scalar.addi v162 v170
  let c2047_i32_54 : BitVec 32 := 2047#32
  let v177 : BitVec 32 := Scalar.addi v45 c2047_i32_54
  let v178 : BitVec 1 := Scalar.cmpi .sle v176 v177
  let v179 : BitVec 32 := Scalar.extui v178
  let v180 : BitVec 32 := Scalar.addi v171 v179
  let c2047_i32_56 : BitVec 32 := 2047#32
  let v186 : BitVec 32 := Scalar.addi v45 c2047_i32_56
  let v187 : BitVec 1 := Scalar.cmpi .sle v185 v186
  let v188 : BitVec 32 := Scalar.extui v187
  let v189 : BitVec 32 := Scalar.addi v180 v188
  let c1_i32_71 : BitVec 32 := 1#32
  let v226 : BitVec 32 := Scalar.addi v189 c1_i32_71
  let v227 : BitVec 32 := Scalar.subi v226 v225
  let c1_i32_73 : BitVec 32 := 1#32
  let v229 : BitVec 32 := Scalar.divsi v227 c1_i32_73
  let v230 : BitVec 32 := Scalar.muli v229 c1_i32_73
  let v231 : BitVec 32 := Scalar.addi v225 v230
  let c1_i32_75 : BitVec 32 := 1#32
  let arg17 : BitVec 32 := Scf.iv v231 c1_i32_75 k0_t2
  let c1_i32_76 : BitVec 32 := 1#32
  let v236 : BitVec 32 := Scalar.addi arg17 c1_i32_76
  let v237 : Index := Scalar.indexCast v236
  ![v237.toNat]

def k0_chk2 (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) : Prop :=
  (∀ (k0_h2 : k0_cond2 i = 1#1), ∀ (k0_h3 : k0_cond3 i = 1#1), ∀ (k0_h4 : k0_cond4 i v46 v50 v55 v59 v64 v68 v73 v77 v82 v86 v91 v95 v100 v104 v109 v113 v118 v122 v127 v131 v136 v140 v145 v149 v154 v158 v163 v167 v172 v176 v181 v185 = 1#1), ∀ (r : Fin 2), ∀ a, (k0_off2 i v46 v55 v64 v73 v82 v91 v100 v109 v118 v127 v136 v145 v154 v163 v172 v181 (BitVec.ofNat 32 (1 + r.val))) a + S1.size a ≤ S17.size a) ∧
  (∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), (k0_t1_loop i v46 v50 v55 v59 v64 v68 v73 v77 v82 v86 v91 v95 v100 v104 v109 v113 v118 v122 v127 v131 v136 v140 v145 v149 v154 v158 v163 v167 v172 v176 v181 v185).OK) ∧
  (∀ k0_t1 : Fin (k0_t1_loop i v46 v50 v55 v59 v64 v68 v73 v77 v82 v86 v91 v95 v100 v104 v109 v113 v118 v122 v127 v131 v136 v140 v145 v149 v154 v158 v163 v167 v172 v176 v181 v185).trips, ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off3 i v46 v50 v55 v59 v64 v68 v73 v77 v82 v86 v91 v95 v100 v104 v109 v113 v118 v122 v127 v131 v136 v140 v145 v149 v154 v158 v163 v167 v172 v176 v181 v185 k0_t1) a + S1.size a ≤ S17.size a) ∧
  (∀ k0_t1 : Fin (k0_t1_loop i v46 v50 v55 v59 v64 v68 v73 v77 v82 v86 v91 v95 v100 v104 v109 v113 v118 v122 v127 v131 v136 v140 v145 v149 v154 v158 v163 v167 v172 v176 v181 v185).trips, ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off4 i v46 v50 v55 v59 v64 v68 v73 v77 v82 v86 v91 v95 v100 v104 v109 v113 v118 v122 v127 v131 v136 v140 v145 v149 v154 v158 v163 v167 v172 v176 v181 v185 k0_t1) a + S1.size a ≤ S17.size a) ∧
  (∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), (k0_t2_loop i v46 v50 v55 v59 v64 v68 v73 v77 v82 v86 v91 v95 v100 v104 v109 v113 v118 v122 v127 v131 v136 v140 v145 v149 v154 v158 v163 v167 v172 v176 v181 v185).OK) ∧
  (∀ k0_t2 : Fin (k0_t2_loop i v46 v50 v55 v59 v64 v68 v73 v77 v82 v86 v91 v95 v100 v104 v109 v113 v118 v122 v127 v131 v136 v140 v145 v149 v154 v158 v163 v167 v172 v176 v181 v185).trips, ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off5 i v46 v50 v55 v59 v64 v68 v73 v77 v82 v86 v91 v95 v100 v104 v109 v113 v118 v122 v127 v131 v136 v140 v145 v149 v154 v158 v163 v167 v172 v176 v181 v185 k0_t2) a + S1.size a ≤ S17.size a) ∧
  (∀ k0_t2 : Fin (k0_t2_loop i v46 v50 v55 v59 v64 v68 v73 v77 v82 v86 v91 v95 v100 v104 v109 v113 v118 v122 v127 v131 v136 v140 v145 v149 v154 v158 v163 v167 v172 v176 v181 v185).trips, ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off6 i v46 v50 v55 v59 v64 v68 v73 v77 v82 v86 v91 v95 v100 v104 v109 v113 v118 v122 v127 v131 v136 v140 v145 v149 v154 v158 v163 v167 v172 v176 v181 v185 k0_t2) a + S1.size a ≤ S17.size a)
theorem k0_off2_inb : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185), ∀ (k0_h2 : k0_cond2 i = 1#1), ∀ (k0_h3 : k0_cond3 i = 1#1), ∀ (k0_h4 : k0_cond4 i v46 v50 v55 v59 v64 v68 v73 v77 v82 v86 v91 v95 v100 v104 v109 v113 v118 v122 v127 v131 v136 v140 v145 v149 v154 v158 v163 v167 v172 v176 v181 v185 = 1#1), ∀ (r : Fin 2), ∀ a, (k0_off2 i v46 v55 v64 v73 v82 v91 v100 v109 v118 v127 v136 v145 v154 v163 v172 v181 (BitVec.ofNat 32 (1 + r.val))) a + S1.size a ≤ S17.size a := fun i v46 v50 v55 v59 v64 v68 v73 v77 v82 v86 v91 v95 v100 v104 v109 v113 v118 v122 v127 v131 v136 v140 v145 v149 v154 v158 v163 v167 v172 v176 v181 v185 k0_hw2 k0_h2 k0_h3 k0_h4 r => k0_hw2.1 k0_h2 k0_h3 k0_h4 r
theorem k0_t1_ok : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), (k0_t1_loop i v46 v50 v55 v59 v64 v68 v73 v77 v82 v86 v91 v95 v100 v104 v109 v113 v118 v122 v127 v131 v136 v140 v145 v149 v154 v158 v163 v167 v172 v176 v181 v185).OK := fun i v46 v50 v55 v59 v64 v68 v73 v77 v82 v86 v91 v95 v100 v104 v109 v113 v118 v122 v127 v131 v136 v140 v145 v149 v154 v158 v163 v167 v172 v176 v181 v185 k0_hw2 k0_h2 k0_h3 k0_h5 => k0_hw2.2.1 k0_h2 k0_h3 k0_h5
theorem k0_off3_inb : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185) (k0_t1 : Fin (k0_t1_loop i v46 v50 v55 v59 v64 v68 v73 v77 v82 v86 v91 v95 v100 v104 v109 v113 v118 v122 v127 v131 v136 v140 v145 v149 v154 v158 v163 v167 v172 v176 v181 v185).trips), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off3 i v46 v50 v55 v59 v64 v68 v73 v77 v82 v86 v91 v95 v100 v104 v109 v113 v118 v122 v127 v131 v136 v140 v145 v149 v154 v158 v163 v167 v172 v176 v181 v185 k0_t1) a + S1.size a ≤ S17.size a := fun i v46 v50 v55 v59 v64 v68 v73 v77 v82 v86 v91 v95 v100 v104 v109 v113 v118 v122 v127 v131 v136 v140 v145 v149 v154 v158 v163 v167 v172 v176 v181 v185 k0_hw2 k0_t1 k0_h2 k0_h3 k0_h5 => k0_hw2.2.2.1 k0_t1 k0_h2 k0_h3 k0_h5
theorem k0_off4_inb : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185) (k0_t1 : Fin (k0_t1_loop i v46 v50 v55 v59 v64 v68 v73 v77 v82 v86 v91 v95 v100 v104 v109 v113 v118 v122 v127 v131 v136 v140 v145 v149 v154 v158 v163 v167 v172 v176 v181 v185).trips), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off4 i v46 v50 v55 v59 v64 v68 v73 v77 v82 v86 v91 v95 v100 v104 v109 v113 v118 v122 v127 v131 v136 v140 v145 v149 v154 v158 v163 v167 v172 v176 v181 v185 k0_t1) a + S1.size a ≤ S17.size a := fun i v46 v50 v55 v59 v64 v68 v73 v77 v82 v86 v91 v95 v100 v104 v109 v113 v118 v122 v127 v131 v136 v140 v145 v149 v154 v158 v163 v167 v172 v176 v181 v185 k0_hw2 k0_t1 k0_h2 k0_h3 k0_h5 => k0_hw2.2.2.2.1 k0_t1 k0_h2 k0_h3 k0_h5
theorem k0_t2_ok : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), (k0_t2_loop i v46 v50 v55 v59 v64 v68 v73 v77 v82 v86 v91 v95 v100 v104 v109 v113 v118 v122 v127 v131 v136 v140 v145 v149 v154 v158 v163 v167 v172 v176 v181 v185).OK := fun i v46 v50 v55 v59 v64 v68 v73 v77 v82 v86 v91 v95 v100 v104 v109 v113 v118 v122 v127 v131 v136 v140 v145 v149 v154 v158 v163 v167 v172 v176 v181 v185 k0_hw2 k0_h2 k0_h3 k0_h5 => k0_hw2.2.2.2.2.1 k0_h2 k0_h3 k0_h5
theorem k0_off5_inb : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185) (k0_t2 : Fin (k0_t2_loop i v46 v50 v55 v59 v64 v68 v73 v77 v82 v86 v91 v95 v100 v104 v109 v113 v118 v122 v127 v131 v136 v140 v145 v149 v154 v158 v163 v167 v172 v176 v181 v185).trips), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off5 i v46 v50 v55 v59 v64 v68 v73 v77 v82 v86 v91 v95 v100 v104 v109 v113 v118 v122 v127 v131 v136 v140 v145 v149 v154 v158 v163 v167 v172 v176 v181 v185 k0_t2) a + S1.size a ≤ S17.size a := fun i v46 v50 v55 v59 v64 v68 v73 v77 v82 v86 v91 v95 v100 v104 v109 v113 v118 v122 v127 v131 v136 v140 v145 v149 v154 v158 v163 v167 v172 v176 v181 v185 k0_hw2 k0_t2 k0_h2 k0_h3 k0_h5 => k0_hw2.2.2.2.2.2.1 k0_t2 k0_h2 k0_h3 k0_h5
theorem k0_off6_inb : ∀ (i : grid0.Coords) (v46 : BitVec 32) (v50 : BitVec 32) (v55 : BitVec 32) (v59 : BitVec 32) (v64 : BitVec 32) (v68 : BitVec 32) (v73 : BitVec 32) (v77 : BitVec 32) (v82 : BitVec 32) (v86 : BitVec 32) (v91 : BitVec 32) (v95 : BitVec 32) (v100 : BitVec 32) (v104 : BitVec 32) (v109 : BitVec 32) (v113 : BitVec 32) (v118 : BitVec 32) (v122 : BitVec 32) (v127 : BitVec 32) (v131 : BitVec 32) (v136 : BitVec 32) (v140 : BitVec 32) (v145 : BitVec 32) (v149 : BitVec 32) (v154 : BitVec 32) (v158 : BitVec 32) (v163 : BitVec 32) (v167 : BitVec 32) (v172 : BitVec 32) (v176 : BitVec 32) (v181 : BitVec 32) (v185 : BitVec 32) (k0_hw2 : k0_chk2 i v46 v50 v55 v59 v64 v68 v73 v77 v82 v86 v91 v95 v100 v104 v109 v113 v118 v122 v127 v131 v136 v140 v145 v149 v154 v158 v163 v167 v172 v176 v181 v185) (k0_t2 : Fin (k0_t2_loop i v46 v50 v55 v59 v64 v68 v73 v77 v82 v86 v91 v95 v100 v104 v109 v113 v118 v122 v127 v131 v136 v140 v145 v149 v154 v158 v163 v167 v172 v176 v181 v185).trips), ∀ (k0_h2 : k0_cond2 i = 1#1), ∀ (k0_h3 : k0_cond3 i = 1#1), ∀ (k0_h5 : k0_cond5 i v46 v50 v55 v59 v64 v68 v73 v77 v82 v86 v91 v95 v100 v104 v109 v113 v118 v122 v127 v131 v136 v140 v145 v149 v154 v158 v163 v167 v172 v176 v181 v185 = 1#1), ∀ a, (k0_off6 i v46 v50 v55 v59 v64 v68 v73 v77 v82 v86 v91 v95 v100 v104 v109 v113 v118 v122 v127 v131 v136 v140 v145 v149 v154 v158 v163 v167 v172 v176 v181 v185 k0_t2) a + S1.size a ≤ S17.size a := fun i v46 v50 v55 v59 v64 v68 v73 v77 v82 v86 v91 v95 v100 v104 v109 v113 v118 v122 v127 v131 v136 v140 v145 v149 v154 v158 v163 v167 v172 v176 v181 v185 k0_hw2 k0_t2 k0_h2 k0_h3 k0_h5 => k0_hw2.2.2.2.2.2.2 k0_t2 k0_h2 k0_h3 k0_h5

def k0_cond6 (i : grid0.Coords) : BitVec 1 :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_13 : BitVec 32 := 1#32
  let v27 : BitVec 1 := Scalar.cmpi .eq v26 c1_i32_13
  let v28 : BitVec 32 := Scalar.extui v27
  let c0_i32_14 : BitVec 32 := 0#32
  let v29 : BitVec 1 := Scalar.cmpi .ne v28 c0_i32_14
  v29

def k0_off7 (i : grid0.Coords) (v43 : BitVec 32) (v52 : BitVec 32) (v61 : BitVec 32) (v70 : BitVec 32) (v79 : BitVec 32) (v88 : BitVec 32) (v97 : BitVec 32) (v106 : BitVec 32) (v115 : BitVec 32) (v124 : BitVec 32) (v133 : BitVec 32) (v142 : BitVec 32) (v151 : BitVec 32) (v160 : BitVec 32) (v169 : BitVec 32) (v178 : BitVec 32) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c1_i32_57 : BitVec 32 := 1#32
  let v191 : BitVec 32 := Scalar.addi v181 c1_i32_57
  let v192 : Index := Scalar.indexCast v191
  ![v192.toNat]

def k0_chk3 (i : grid0.Coords) (v43 : BitVec 32) (v52 : BitVec 32) (v61 : BitVec 32) (v70 : BitVec 32) (v79 : BitVec 32) (v88 : BitVec 32) (v97 : BitVec 32) (v106 : BitVec 32) (v115 : BitVec 32) (v124 : BitVec 32) (v133 : BitVec 32) (v142 : BitVec 32) (v151 : BitVec 32) (v160 : BitVec 32) (v169 : BitVec 32) (v178 : BitVec 32) : Prop :=
  (∀ (k0_h6 : k0_cond6 i = 1#1), ∀ a, (k0_off7 i v43 v52 v61 v70 v79 v88 v97 v106 v115 v124 v133 v142 v151 v160 v169 v178) a + S1.size a ≤ S17.size a)
theorem k0_off7_inb : ∀ (i : grid0.Coords) (v43 : BitVec 32) (v52 : BitVec 32) (v61 : BitVec 32) (v70 : BitVec 32) (v79 : BitVec 32) (v88 : BitVec 32) (v97 : BitVec 32) (v106 : BitVec 32) (v115 : BitVec 32) (v124 : BitVec 32) (v133 : BitVec 32) (v142 : BitVec 32) (v151 : BitVec 32) (v160 : BitVec 32) (v169 : BitVec 32) (v178 : BitVec 32) (k0_hw3 : k0_chk3 i v43 v52 v61 v70 v79 v88 v97 v106 v115 v124 v133 v142 v151 v160 v169 v178), ∀ (k0_h6 : k0_cond6 i = 1#1), ∀ a, (k0_off7 i v43 v52 v61 v70 v79 v88 v97 v106 v115 v124 v133 v142 v151 v160 v169 v178) a + S1.size a ≤ S17.size a := fun i v43 v52 v61 v70 v79 v88 v97 v106 v115 v124 v133 v142 v151 v160 v169 v178 k0_hw3 k0_h6 => k0_hw3 k0_h6

def k0_off8 (i : grid0.Coords) (v43 : BitVec 32) (v52 : BitVec 32) (v61 : BitVec 32) (v70 : BitVec 32) (v79 : BitVec 32) (v88 : BitVec 32) (v97 : BitVec 32) (v106 : BitVec 32) (v115 : BitVec 32) (v124 : BitVec 32) (v133 : BitVec 32) (v142 : BitVec 32) (v151 : BitVec 32) (v160 : BitVec 32) (v169 : BitVec 32) (v178 : BitVec 32) (c1_i32_68 : BitVec 32) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let v222 : BitVec 32 := Scalar.addi v181 c1_i32_68
  let v223 : Index := Scalar.indexCast v222
  ![v223.toNat]
def k0_cond7 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) : BitVec 1 :=
  let c0_i32_24 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c0_i32_22 : BitVec 32 := 0#32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let v215 : BitVec 1 := Scalar.cmpi .sgt v186 v181
  let v216 : BitVec 32 := Scalar.extui v215
  let c0_i32_65 : BitVec 32 := 0#32
  let v217 : BitVec 1 := Scalar.cmpi .ne v216 c0_i32_65
  v217

@[reducible] def k0_t3_loop (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) : Scf.Loop 32 :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c0_i32_24 : BitVec 32 := 0#32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c1_i32_69 : BitVec 32 := 1#32
  let v223 : BitVec 32 := Scalar.addi v186 c1_i32_69
  let v224 : BitVec 32 := Scalar.subi v223 v222
  let c1_i32_71 : BitVec 32 := 1#32
  let v226 : BitVec 32 := Scalar.divsi v224 c1_i32_71
  let v227 : BitVec 32 := Scalar.muli v226 c1_i32_71
  let v228 : BitVec 32 := Scalar.addi v222 v227
  let c1_i32_72 : BitVec 32 := 1#32
  ⟨v222, v228, c1_i32_72⟩
def k0_cond8 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) : BitVec 1 :=
  let c0_i32_24 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c0_i32_22 : BitVec 32 := 0#32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c1_i32_66 : BitVec 32 := 1#32
  let v218 : BitVec 32 := Scalar.addi v181 c1_i32_66
  let v219 : BitVec 1 := Scalar.cmpi .sgt v186 v218
  let v220 : BitVec 32 := Scalar.extui v219
  let c0_i32_67 : BitVec 32 := 0#32
  let v221 : BitVec 1 := Scalar.cmpi .ne v220 c0_i32_67
  v221

def k0_off9 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_t3 : Fin (k0_t3_loop i v43 v47 v52 v56 v61 v65 v70 v74 v79 v83 v88 v92 v97 v101 v106 v110 v115 v119 v124 v128 v133 v137 v142 v146 v151 v155 v160 v164 v169 v173 v178 v182).trips) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c1_i32_72 : BitVec 32 := 1#32
  let arg17 : BitVec 32 := Scf.iv v222 c1_i32_72 k0_t3
  let v229 : Index := Scalar.indexCast arg17
  ![v229.toNat]
def k0_off10 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_t3 : Fin (k0_t3_loop i v43 v47 v52 v56 v61 v65 v70 v74 v79 v83 v88 v92 v97 v101 v106 v110 v115 v119 v124 v128 v133 v137 v142 v146 v151 v155 v160 v164 v169 v173 v178 v182).trips) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c1_i32_72 : BitVec 32 := 1#32
  let arg17 : BitVec 32 := Scf.iv v222 c1_i32_72 k0_t3
  let c1_i32_74 : BitVec 32 := 1#32
  let v233 : BitVec 32 := Scalar.addi arg17 c1_i32_74
  let v234 : Index := Scalar.indexCast v233
  ![v234.toNat]
@[reducible] def k0_t4_loop (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) : Scf.Loop 32 :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c0_i32_24 : BitVec 32 := 0#32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c1_i32_69 : BitVec 32 := 1#32
  let v223 : BitVec 32 := Scalar.addi v186 c1_i32_69
  let v224 : BitVec 32 := Scalar.subi v223 v222
  let c1_i32_71 : BitVec 32 := 1#32
  let v226 : BitVec 32 := Scalar.divsi v224 c1_i32_71
  let v227 : BitVec 32 := Scalar.muli v226 c1_i32_71
  let v228 : BitVec 32 := Scalar.addi v222 v227
  let v225 : BitVec 32 := Scalar.addi v222 v224
  let c1_i32_73 : BitVec 32 := 1#32
  ⟨v228, v225, c1_i32_73⟩
def k0_off11 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_t4 : Fin (k0_t4_loop i v43 v47 v52 v56 v61 v65 v70 v74 v79 v83 v88 v92 v97 v101 v106 v110 v115 v119 v124 v128 v133 v137 v142 v146 v151 v155 v160 v164 v169 v173 v178 v182).trips) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c0_i32_24 : BitVec 32 := 0#32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c1_i32_69 : BitVec 32 := 1#32
  let v223 : BitVec 32 := Scalar.addi v186 c1_i32_69
  let v224 : BitVec 32 := Scalar.subi v223 v222
  let c1_i32_71 : BitVec 32 := 1#32
  let v226 : BitVec 32 := Scalar.divsi v224 c1_i32_71
  let v227 : BitVec 32 := Scalar.muli v226 c1_i32_71
  let v228 : BitVec 32 := Scalar.addi v222 v227
  let c1_i32_73 : BitVec 32 := 1#32
  let arg17 : BitVec 32 := Scf.iv v228 c1_i32_73 k0_t4
  let v229 : Index := Scalar.indexCast arg17
  ![v229.toNat]
def k0_off12 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_t4 : Fin (k0_t4_loop i v43 v47 v52 v56 v61 v65 v70 v74 v79 v83 v88 v92 v97 v101 v106 v110 v115 v119 v124 v128 v133 v137 v142 v146 v151 v155 v160 v164 v169 v173 v178 v182).trips) : Fin 1 → Nat :=
  let c0_i32_22 : BitVec 32 := 0#32
  let arg0 : BitVec 32 := BitVec.ofNat 32 (i 0).val
  let c1_i32_21 : BitVec 32 := 1#32
  let v41 : BitVec 32 := Scalar.subi arg0 c1_i32_21
  let c2048_i32 : BitVec 32 := 2048#32
  let v42 : BitVec 32 := Scalar.muli v41 c2048_i32
  let v44 : BitVec 1 := Scalar.cmpi .sle v43 v42
  let v45 : BitVec 32 := Scalar.extui v44
  let v46 : BitVec 32 := Scalar.addi c0_i32_22 v45
  let v53 : BitVec 1 := Scalar.cmpi .sle v52 v42
  let v54 : BitVec 32 := Scalar.extui v53
  let v55 : BitVec 32 := Scalar.addi v46 v54
  let v62 : BitVec 1 := Scalar.cmpi .sle v61 v42
  let v63 : BitVec 32 := Scalar.extui v62
  let v64 : BitVec 32 := Scalar.addi v55 v63
  let v71 : BitVec 1 := Scalar.cmpi .sle v70 v42
  let v72 : BitVec 32 := Scalar.extui v71
  let v73 : BitVec 32 := Scalar.addi v64 v72
  let v80 : BitVec 1 := Scalar.cmpi .sle v79 v42
  let v81 : BitVec 32 := Scalar.extui v80
  let v82 : BitVec 32 := Scalar.addi v73 v81
  let v89 : BitVec 1 := Scalar.cmpi .sle v88 v42
  let v90 : BitVec 32 := Scalar.extui v89
  let v91 : BitVec 32 := Scalar.addi v82 v90
  let v98 : BitVec 1 := Scalar.cmpi .sle v97 v42
  let v99 : BitVec 32 := Scalar.extui v98
  let v100 : BitVec 32 := Scalar.addi v91 v99
  let v107 : BitVec 1 := Scalar.cmpi .sle v106 v42
  let v108 : BitVec 32 := Scalar.extui v107
  let v109 : BitVec 32 := Scalar.addi v100 v108
  let v116 : BitVec 1 := Scalar.cmpi .sle v115 v42
  let v117 : BitVec 32 := Scalar.extui v116
  let v118 : BitVec 32 := Scalar.addi v109 v117
  let v125 : BitVec 1 := Scalar.cmpi .sle v124 v42
  let v126 : BitVec 32 := Scalar.extui v125
  let v127 : BitVec 32 := Scalar.addi v118 v126
  let v134 : BitVec 1 := Scalar.cmpi .sle v133 v42
  let v135 : BitVec 32 := Scalar.extui v134
  let v136 : BitVec 32 := Scalar.addi v127 v135
  let v143 : BitVec 1 := Scalar.cmpi .sle v142 v42
  let v144 : BitVec 32 := Scalar.extui v143
  let v145 : BitVec 32 := Scalar.addi v136 v144
  let v152 : BitVec 1 := Scalar.cmpi .sle v151 v42
  let v153 : BitVec 32 := Scalar.extui v152
  let v154 : BitVec 32 := Scalar.addi v145 v153
  let v161 : BitVec 1 := Scalar.cmpi .sle v160 v42
  let v162 : BitVec 32 := Scalar.extui v161
  let v163 : BitVec 32 := Scalar.addi v154 v162
  let v170 : BitVec 1 := Scalar.cmpi .sle v169 v42
  let v171 : BitVec 32 := Scalar.extui v170
  let v172 : BitVec 32 := Scalar.addi v163 v171
  let v179 : BitVec 1 := Scalar.cmpi .sle v178 v42
  let v180 : BitVec 32 := Scalar.extui v179
  let v181 : BitVec 32 := Scalar.addi v172 v180
  let c2_i32_68 : BitVec 32 := 2#32
  let v222 : BitVec 32 := Scalar.addi v181 c2_i32_68
  let c0_i32_24 : BitVec 32 := 0#32
  let c2047_i32 : BitVec 32 := 2047#32
  let v48 : BitVec 32 := Scalar.addi v42 c2047_i32
  let v49 : BitVec 1 := Scalar.cmpi .sle v47 v48
  let v50 : BitVec 32 := Scalar.extui v49
  let v51 : BitVec 32 := Scalar.addi c0_i32_24 v50
  let c2047_i32_26 : BitVec 32 := 2047#32
  let v57 : BitVec 32 := Scalar.addi v42 c2047_i32_26
  let v58 : BitVec 1 := Scalar.cmpi .sle v56 v57
  let v59 : BitVec 32 := Scalar.extui v58
  let v60 : BitVec 32 := Scalar.addi v51 v59
  let c2047_i32_28 : BitVec 32 := 2047#32
  let v66 : BitVec 32 := Scalar.addi v42 c2047_i32_28
  let v67 : BitVec 1 := Scalar.cmpi .sle v65 v66
  let v68 : BitVec 32 := Scalar.extui v67
  let v69 : BitVec 32 := Scalar.addi v60 v68
  let c2047_i32_30 : BitVec 32 := 2047#32
  let v75 : BitVec 32 := Scalar.addi v42 c2047_i32_30
  let v76 : BitVec 1 := Scalar.cmpi .sle v74 v75
  let v77 : BitVec 32 := Scalar.extui v76
  let v78 : BitVec 32 := Scalar.addi v69 v77
  let c2047_i32_32 : BitVec 32 := 2047#32
  let v84 : BitVec 32 := Scalar.addi v42 c2047_i32_32
  let v85 : BitVec 1 := Scalar.cmpi .sle v83 v84
  let v86 : BitVec 32 := Scalar.extui v85
  let v87 : BitVec 32 := Scalar.addi v78 v86
  let c2047_i32_34 : BitVec 32 := 2047#32
  let v93 : BitVec 32 := Scalar.addi v42 c2047_i32_34
  let v94 : BitVec 1 := Scalar.cmpi .sle v92 v93
  let v95 : BitVec 32 := Scalar.extui v94
  let v96 : BitVec 32 := Scalar.addi v87 v95
  let c2047_i32_36 : BitVec 32 := 2047#32
  let v102 : BitVec 32 := Scalar.addi v42 c2047_i32_36
  let v103 : BitVec 1 := Scalar.cmpi .sle v101 v102
  let v104 : BitVec 32 := Scalar.extui v103
  let v105 : BitVec 32 := Scalar.addi v96 v104
  let c2047_i32_38 : BitVec 32 := 2047#32
  let v111 : BitVec 32 := Scalar.addi v42 c2047_i32_38
  let v112 : BitVec 1 := Scalar.cmpi .sle v110 v111
  let v113 : BitVec 32 := Scalar.extui v112
  let v114 : BitVec 32 := Scalar.addi v105 v113
  let c2047_i32_40 : BitVec 32 := 2047#32
  let v120 : BitVec 32 := Scalar.addi v42 c2047_i32_40
  let v121 : BitVec 1 := Scalar.cmpi .sle v119 v120
  let v122 : BitVec 32 := Scalar.extui v121
  let v123 : BitVec 32 := Scalar.addi v114 v122
  let c2047_i32_42 : BitVec 32 := 2047#32
  let v129 : BitVec 32 := Scalar.addi v42 c2047_i32_42
  let v130 : BitVec 1 := Scalar.cmpi .sle v128 v129
  let v131 : BitVec 32 := Scalar.extui v130
  let v132 : BitVec 32 := Scalar.addi v123 v131
  let c2047_i32_44 : BitVec 32 := 2047#32
  let v138 : BitVec 32 := Scalar.addi v42 c2047_i32_44
  let v139 : BitVec 1 := Scalar.cmpi .sle v137 v138
  let v140 : BitVec 32 := Scalar.extui v139
  let v141 : BitVec 32 := Scalar.addi v132 v140
  let c2047_i32_46 : BitVec 32 := 2047#32
  let v147 : BitVec 32 := Scalar.addi v42 c2047_i32_46
  let v148 : BitVec 1 := Scalar.cmpi .sle v146 v147
  let v149 : BitVec 32 := Scalar.extui v148
  let v150 : BitVec 32 := Scalar.addi v141 v149
  let c2047_i32_48 : BitVec 32 := 2047#32
  let v156 : BitVec 32 := Scalar.addi v42 c2047_i32_48
  let v157 : BitVec 1 := Scalar.cmpi .sle v155 v156
  let v158 : BitVec 32 := Scalar.extui v157
  let v159 : BitVec 32 := Scalar.addi v150 v158
  let c2047_i32_50 : BitVec 32 := 2047#32
  let v165 : BitVec 32 := Scalar.addi v42 c2047_i32_50
  let v166 : BitVec 1 := Scalar.cmpi .sle v164 v165
  let v167 : BitVec 32 := Scalar.extui v166
  let v168 : BitVec 32 := Scalar.addi v159 v167
  let c2047_i32_52 : BitVec 32 := 2047#32
  let v174 : BitVec 32 := Scalar.addi v42 c2047_i32_52
  let v175 : BitVec 1 := Scalar.cmpi .sle v173 v174
  let v176 : BitVec 32 := Scalar.extui v175
  let v177 : BitVec 32 := Scalar.addi v168 v176
  let c2047_i32_54 : BitVec 32 := 2047#32
  let v183 : BitVec 32 := Scalar.addi v42 c2047_i32_54
  let v184 : BitVec 1 := Scalar.cmpi .sle v182 v183
  let v185 : BitVec 32 := Scalar.extui v184
  let v186 : BitVec 32 := Scalar.addi v177 v185
  let c1_i32_69 : BitVec 32 := 1#32
  let v223 : BitVec 32 := Scalar.addi v186 c1_i32_69
  let v224 : BitVec 32 := Scalar.subi v223 v222
  let c1_i32_71 : BitVec 32 := 1#32
  let v226 : BitVec 32 := Scalar.divsi v224 c1_i32_71
  let v227 : BitVec 32 := Scalar.muli v226 c1_i32_71
  let v228 : BitVec 32 := Scalar.addi v222 v227
  let c1_i32_73 : BitVec 32 := 1#32
  let arg17 : BitVec 32 := Scf.iv v228 c1_i32_73 k0_t4
  let c1_i32_74 : BitVec 32 := 1#32
  let v233 : BitVec 32 := Scalar.addi arg17 c1_i32_74
  let v234 : Index := Scalar.indexCast v233
  ![v234.toNat]

def k0_chk4 (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) : Prop :=
  (∀ (k0_h6 : k0_cond6 i = 1#1), ∀ (k0_h7 : k0_cond7 i v43 v47 v52 v56 v61 v65 v70 v74 v79 v83 v88 v92 v97 v101 v106 v110 v115 v119 v124 v128 v133 v137 v142 v146 v151 v155 v160 v164 v169 v173 v178 v182 = 1#1), ∀ (r : Fin 2), ∀ a, (k0_off8 i v43 v52 v61 v70 v79 v88 v97 v106 v115 v124 v133 v142 v151 v160 v169 v178 (BitVec.ofNat 32 (1 + r.val))) a + S1.size a ≤ S17.size a) ∧
  (∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), (k0_t3_loop i v43 v47 v52 v56 v61 v65 v70 v74 v79 v83 v88 v92 v97 v101 v106 v110 v115 v119 v124 v128 v133 v137 v142 v146 v151 v155 v160 v164 v169 v173 v178 v182).OK) ∧
  (∀ k0_t3 : Fin (k0_t3_loop i v43 v47 v52 v56 v61 v65 v70 v74 v79 v83 v88 v92 v97 v101 v106 v110 v115 v119 v124 v128 v133 v137 v142 v146 v151 v155 v160 v164 v169 v173 v178 v182).trips, ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off9 i v43 v47 v52 v56 v61 v65 v70 v74 v79 v83 v88 v92 v97 v101 v106 v110 v115 v119 v124 v128 v133 v137 v142 v146 v151 v155 v160 v164 v169 v173 v178 v182 k0_t3) a + S1.size a ≤ S17.size a) ∧
  (∀ k0_t3 : Fin (k0_t3_loop i v43 v47 v52 v56 v61 v65 v70 v74 v79 v83 v88 v92 v97 v101 v106 v110 v115 v119 v124 v128 v133 v137 v142 v146 v151 v155 v160 v164 v169 v173 v178 v182).trips, ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off10 i v43 v47 v52 v56 v61 v65 v70 v74 v79 v83 v88 v92 v97 v101 v106 v110 v115 v119 v124 v128 v133 v137 v142 v146 v151 v155 v160 v164 v169 v173 v178 v182 k0_t3) a + S1.size a ≤ S17.size a) ∧
  (∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), (k0_t4_loop i v43 v47 v52 v56 v61 v65 v70 v74 v79 v83 v88 v92 v97 v101 v106 v110 v115 v119 v124 v128 v133 v137 v142 v146 v151 v155 v160 v164 v169 v173 v178 v182).OK) ∧
  (∀ k0_t4 : Fin (k0_t4_loop i v43 v47 v52 v56 v61 v65 v70 v74 v79 v83 v88 v92 v97 v101 v106 v110 v115 v119 v124 v128 v133 v137 v142 v146 v151 v155 v160 v164 v169 v173 v178 v182).trips, ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off11 i v43 v47 v52 v56 v61 v65 v70 v74 v79 v83 v88 v92 v97 v101 v106 v110 v115 v119 v124 v128 v133 v137 v142 v146 v151 v155 v160 v164 v169 v173 v178 v182 k0_t4) a + S1.size a ≤ S17.size a) ∧
  (∀ k0_t4 : Fin (k0_t4_loop i v43 v47 v52 v56 v61 v65 v70 v74 v79 v83 v88 v92 v97 v101 v106 v110 v115 v119 v124 v128 v133 v137 v142 v146 v151 v155 v160 v164 v169 v173 v178 v182).trips, ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off12 i v43 v47 v52 v56 v61 v65 v70 v74 v79 v83 v88 v92 v97 v101 v106 v110 v115 v119 v124 v128 v133 v137 v142 v146 v151 v155 v160 v164 v169 v173 v178 v182 k0_t4) a + S1.size a ≤ S17.size a)
theorem k0_off8_inb : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182), ∀ (k0_h6 : k0_cond6 i = 1#1), ∀ (k0_h7 : k0_cond7 i v43 v47 v52 v56 v61 v65 v70 v74 v79 v83 v88 v92 v97 v101 v106 v110 v115 v119 v124 v128 v133 v137 v142 v146 v151 v155 v160 v164 v169 v173 v178 v182 = 1#1), ∀ (r : Fin 2), ∀ a, (k0_off8 i v43 v52 v61 v70 v79 v88 v97 v106 v115 v124 v133 v142 v151 v160 v169 v178 (BitVec.ofNat 32 (1 + r.val))) a + S1.size a ≤ S17.size a := fun i v43 v47 v52 v56 v61 v65 v70 v74 v79 v83 v88 v92 v97 v101 v106 v110 v115 v119 v124 v128 v133 v137 v142 v146 v151 v155 v160 v164 v169 v173 v178 v182 k0_hw4 k0_h6 k0_h7 r => k0_hw4.1 k0_h6 k0_h7 r
theorem k0_t3_ok : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), (k0_t3_loop i v43 v47 v52 v56 v61 v65 v70 v74 v79 v83 v88 v92 v97 v101 v106 v110 v115 v119 v124 v128 v133 v137 v142 v146 v151 v155 v160 v164 v169 v173 v178 v182).OK := fun i v43 v47 v52 v56 v61 v65 v70 v74 v79 v83 v88 v92 v97 v101 v106 v110 v115 v119 v124 v128 v133 v137 v142 v146 v151 v155 v160 v164 v169 v173 v178 v182 k0_hw4 k0_h6 k0_h8 => k0_hw4.2.1 k0_h6 k0_h8
theorem k0_off9_inb : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182) (k0_t3 : Fin (k0_t3_loop i v43 v47 v52 v56 v61 v65 v70 v74 v79 v83 v88 v92 v97 v101 v106 v110 v115 v119 v124 v128 v133 v137 v142 v146 v151 v155 v160 v164 v169 v173 v178 v182).trips), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off9 i v43 v47 v52 v56 v61 v65 v70 v74 v79 v83 v88 v92 v97 v101 v106 v110 v115 v119 v124 v128 v133 v137 v142 v146 v151 v155 v160 v164 v169 v173 v178 v182 k0_t3) a + S1.size a ≤ S17.size a := fun i v43 v47 v52 v56 v61 v65 v70 v74 v79 v83 v88 v92 v97 v101 v106 v110 v115 v119 v124 v128 v133 v137 v142 v146 v151 v155 v160 v164 v169 v173 v178 v182 k0_hw4 k0_t3 k0_h6 k0_h8 => k0_hw4.2.2.1 k0_t3 k0_h6 k0_h8
theorem k0_off10_inb : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182) (k0_t3 : Fin (k0_t3_loop i v43 v47 v52 v56 v61 v65 v70 v74 v79 v83 v88 v92 v97 v101 v106 v110 v115 v119 v124 v128 v133 v137 v142 v146 v151 v155 v160 v164 v169 v173 v178 v182).trips), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off10 i v43 v47 v52 v56 v61 v65 v70 v74 v79 v83 v88 v92 v97 v101 v106 v110 v115 v119 v124 v128 v133 v137 v142 v146 v151 v155 v160 v164 v169 v173 v178 v182 k0_t3) a + S1.size a ≤ S17.size a := fun i v43 v47 v52 v56 v61 v65 v70 v74 v79 v83 v88 v92 v97 v101 v106 v110 v115 v119 v124 v128 v133 v137 v142 v146 v151 v155 v160 v164 v169 v173 v178 v182 k0_hw4 k0_t3 k0_h6 k0_h8 => k0_hw4.2.2.2.1 k0_t3 k0_h6 k0_h8
theorem k0_t4_ok : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), (k0_t4_loop i v43 v47 v52 v56 v61 v65 v70 v74 v79 v83 v88 v92 v97 v101 v106 v110 v115 v119 v124 v128 v133 v137 v142 v146 v151 v155 v160 v164 v169 v173 v178 v182).OK := fun i v43 v47 v52 v56 v61 v65 v70 v74 v79 v83 v88 v92 v97 v101 v106 v110 v115 v119 v124 v128 v133 v137 v142 v146 v151 v155 v160 v164 v169 v173 v178 v182 k0_hw4 k0_h6 k0_h8 => k0_hw4.2.2.2.2.1 k0_h6 k0_h8
theorem k0_off11_inb : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182) (k0_t4 : Fin (k0_t4_loop i v43 v47 v52 v56 v61 v65 v70 v74 v79 v83 v88 v92 v97 v101 v106 v110 v115 v119 v124 v128 v133 v137 v142 v146 v151 v155 v160 v164 v169 v173 v178 v182).trips), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off11 i v43 v47 v52 v56 v61 v65 v70 v74 v79 v83 v88 v92 v97 v101 v106 v110 v115 v119 v124 v128 v133 v137 v142 v146 v151 v155 v160 v164 v169 v173 v178 v182 k0_t4) a + S1.size a ≤ S17.size a := fun i v43 v47 v52 v56 v61 v65 v70 v74 v79 v83 v88 v92 v97 v101 v106 v110 v115 v119 v124 v128 v133 v137 v142 v146 v151 v155 v160 v164 v169 v173 v178 v182 k0_hw4 k0_t4 k0_h6 k0_h8 => k0_hw4.2.2.2.2.2.1 k0_t4 k0_h6 k0_h8
theorem k0_off12_inb : ∀ (i : grid0.Coords) (v43 : BitVec 32) (v47 : BitVec 32) (v52 : BitVec 32) (v56 : BitVec 32) (v61 : BitVec 32) (v65 : BitVec 32) (v70 : BitVec 32) (v74 : BitVec 32) (v79 : BitVec 32) (v83 : BitVec 32) (v88 : BitVec 32) (v92 : BitVec 32) (v97 : BitVec 32) (v101 : BitVec 32) (v106 : BitVec 32) (v110 : BitVec 32) (v115 : BitVec 32) (v119 : BitVec 32) (v124 : BitVec 32) (v128 : BitVec 32) (v133 : BitVec 32) (v137 : BitVec 32) (v142 : BitVec 32) (v146 : BitVec 32) (v151 : BitVec 32) (v155 : BitVec 32) (v160 : BitVec 32) (v164 : BitVec 32) (v169 : BitVec 32) (v173 : BitVec 32) (v178 : BitVec 32) (v182 : BitVec 32) (k0_hw4 : k0_chk4 i v43 v47 v52 v56 v61 v65 v70 v74 v79 v83 v88 v92 v97 v101 v106 v110 v115 v119 v124 v128 v133 v137 v142 v146 v151 v155 v160 v164 v169 v173 v178 v182) (k0_t4 : Fin (k0_t4_loop i v43 v47 v52 v56 v61 v65 v70 v74 v79 v83 v88 v92 v97 v101 v106 v110 v115 v119 v124 v128 v133 v137 v142 v146 v151 v155 v160 v164 v169 v173 v178 v182).trips), ∀ (k0_h6 : k0_cond6 i = 1#1), ∀ (k0_h8 : k0_cond8 i v43 v47 v52 v56 v61 v65 v70 v74 v79 v83 v88 v92 v97 v101 v106 v110 v115 v119 v124 v128 v133 v137 v142 v146 v151 v155 v160 v164 v169 v173 v178 v182 = 1#1), ∀ a, (k0_off12 i v43 v47 v52 v56 v61 v65 v70 v74 v79 v83 v88 v92 v97 v101 v106 v110 v115 v119 v124 v128 v133 v137 v142 v146 v151 v155 v160 v164 v169 v173 v178 v182 k0_t4) a + S1.size a ≤ S17.size a := fun i v43 v47 v52 v56 v61 v65 v70 v74 v79 v83 v88 v92 v97 v101 v106 v110 v115 v119 v124 v128 v133 v137 v142 v146 v151 v155 v160 v164 v169 v173 v178 v182 k0_hw4 k0_t4 k0_h6 k0_h8 => k0_hw4.2.2.2.2.2.2 k0_t4 k0_h6 k0_h8

def k0_cond9 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_15 : BitVec 32 := 0#32
  let v32 : BitVec 1 := Scalar.cmpi .ne v31 c0_i32_15
  v32

def k0_off13 (v33 : BitVec 32) (v41 : BitVec 32) (v49 : BitVec 32) (v57 : BitVec 32) (v65 : BitVec 32) (v73 : BitVec 32) (v81 : BitVec 32) (v89 : BitVec 32) (v97 : BitVec 32) (v105 : BitVec 32) (v113 : BitVec 32) (v121 : BitVec 32) (v129 : BitVec 32) (v137 : BitVec 32) (v145 : BitVec 32) (v153 : BitVec 32) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c1_i32_66 : BitVec 32 := 1#32
  let v165 : BitVec 32 := Scalar.addi v156 c1_i32_66
  let v166 : Index := Scalar.indexCast v165
  ![v166.toNat]

def k0_chk5 (i : grid0.Coords) (v33 : BitVec 32) (v41 : BitVec 32) (v49 : BitVec 32) (v57 : BitVec 32) (v65 : BitVec 32) (v73 : BitVec 32) (v81 : BitVec 32) (v89 : BitVec 32) (v97 : BitVec 32) (v105 : BitVec 32) (v113 : BitVec 32) (v121 : BitVec 32) (v129 : BitVec 32) (v137 : BitVec 32) (v145 : BitVec 32) (v153 : BitVec 32) : Prop :=
  (∀ (k0_h9 : k0_cond9 i = 1#1), ∀ a, (k0_off13 v33 v41 v49 v57 v65 v73 v81 v89 v97 v105 v113 v121 v129 v137 v145 v153) a + S1.size a ≤ S17.size a)
theorem k0_off13_inb : ∀ (i : grid0.Coords) (v33 : BitVec 32) (v41 : BitVec 32) (v49 : BitVec 32) (v57 : BitVec 32) (v65 : BitVec 32) (v73 : BitVec 32) (v81 : BitVec 32) (v89 : BitVec 32) (v97 : BitVec 32) (v105 : BitVec 32) (v113 : BitVec 32) (v121 : BitVec 32) (v129 : BitVec 32) (v137 : BitVec 32) (v145 : BitVec 32) (v153 : BitVec 32) (k0_hw5 : k0_chk5 i v33 v41 v49 v57 v65 v73 v81 v89 v97 v105 v113 v121 v129 v137 v145 v153), ∀ (k0_h9 : k0_cond9 i = 1#1), ∀ a, (k0_off13 v33 v41 v49 v57 v65 v73 v81 v89 v97 v105 v113 v121 v129 v137 v145 v153) a + S1.size a ≤ S17.size a := fun i v33 v41 v49 v57 v65 v73 v81 v89 v97 v105 v113 v121 v129 v137 v145 v153 k0_hw5 k0_h9 => k0_hw5 k0_h9

def k0_off14 (v33 : BitVec 32) (v41 : BitVec 32) (v49 : BitVec 32) (v57 : BitVec 32) (v65 : BitVec 32) (v73 : BitVec 32) (v81 : BitVec 32) (v89 : BitVec 32) (v97 : BitVec 32) (v105 : BitVec 32) (v113 : BitVec 32) (v121 : BitVec 32) (v129 : BitVec 32) (v137 : BitVec 32) (v145 : BitVec 32) (v153 : BitVec 32) (c1_i32_87 : BitVec 32) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let v206 : BitVec 32 := Scalar.addi v156 c1_i32_87
  let v207 : Index := Scalar.indexCast v206
  ![v207.toNat]
def k0_cond10 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) : BitVec 1 :=
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let v189 : BitVec 1 := Scalar.cmpi .sgt v160 v156
  let v190 : BitVec 32 := Scalar.extui v189
  let c0_i32_73 : BitVec 32 := 0#32
  let v191 : BitVec 1 := Scalar.cmpi .ne v190 c0_i32_73
  v191

@[reducible] def k0_t5_loop (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) : Scf.Loop 32 :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c1_i32_88 : BitVec 32 := 1#32
  let v207 : BitVec 32 := Scalar.addi v160 c1_i32_88
  let v208 : BitVec 32 := Scalar.subi v207 v206
  let c1_i32_90 : BitVec 32 := 1#32
  let v210 : BitVec 32 := Scalar.divsi v208 c1_i32_90
  let v211 : BitVec 32 := Scalar.muli v210 c1_i32_90
  let v212 : BitVec 32 := Scalar.addi v206 v211
  let c1_i32_91 : BitVec 32 := 1#32
  ⟨v206, v212, c1_i32_91⟩
def k0_cond11 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) : BitVec 1 :=
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c1_i32_74 : BitVec 32 := 1#32
  let v192 : BitVec 32 := Scalar.addi v156 c1_i32_74
  let v193 : BitVec 1 := Scalar.cmpi .sgt v160 v192
  let v194 : BitVec 32 := Scalar.extui v193
  let c0_i32_75 : BitVec 32 := 0#32
  let v195 : BitVec 1 := Scalar.cmpi .ne v194 c0_i32_75
  v195

def k0_off15 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_t5 : Fin (k0_t5_loop v33 v37 v41 v45 v49 v53 v57 v61 v65 v69 v73 v77 v81 v85 v89 v93 v97 v101 v105 v109 v113 v117 v121 v125 v129 v133 v137 v141 v145 v149 v153 v157).trips) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c1_i32_91 : BitVec 32 := 1#32
  let arg17 : BitVec 32 := Scf.iv v206 c1_i32_91 k0_t5
  let v213 : Index := Scalar.indexCast arg17
  ![v213.toNat]
def k0_off16 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_t5 : Fin (k0_t5_loop v33 v37 v41 v45 v49 v53 v57 v61 v65 v69 v73 v77 v81 v85 v89 v93 v97 v101 v105 v109 v113 v117 v121 v125 v129 v133 v137 v141 v145 v149 v153 v157).trips) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c1_i32_91 : BitVec 32 := 1#32
  let arg17 : BitVec 32 := Scf.iv v206 c1_i32_91 k0_t5
  let c1_i32_93 : BitVec 32 := 1#32
  let v217 : BitVec 32 := Scalar.addi arg17 c1_i32_93
  let v218 : Index := Scalar.indexCast v217
  ![v218.toNat]
@[reducible] def k0_t6_loop (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) : Scf.Loop 32 :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c1_i32_88 : BitVec 32 := 1#32
  let v207 : BitVec 32 := Scalar.addi v160 c1_i32_88
  let v208 : BitVec 32 := Scalar.subi v207 v206
  let c1_i32_90 : BitVec 32 := 1#32
  let v210 : BitVec 32 := Scalar.divsi v208 c1_i32_90
  let v211 : BitVec 32 := Scalar.muli v210 c1_i32_90
  let v212 : BitVec 32 := Scalar.addi v206 v211
  let v209 : BitVec 32 := Scalar.addi v206 v208
  let c1_i32_92 : BitVec 32 := 1#32
  ⟨v212, v209, c1_i32_92⟩
def k0_off17 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_t6 : Fin (k0_t6_loop v33 v37 v41 v45 v49 v53 v57 v61 v65 v69 v73 v77 v81 v85 v89 v93 v97 v101 v105 v109 v113 v117 v121 v125 v129 v133 v137 v141 v145 v149 v153 v157).trips) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c1_i32_88 : BitVec 32 := 1#32
  let v207 : BitVec 32 := Scalar.addi v160 c1_i32_88
  let v208 : BitVec 32 := Scalar.subi v207 v206
  let c1_i32_90 : BitVec 32 := 1#32
  let v210 : BitVec 32 := Scalar.divsi v208 c1_i32_90
  let v211 : BitVec 32 := Scalar.muli v210 c1_i32_90
  let v212 : BitVec 32 := Scalar.addi v206 v211
  let c1_i32_92 : BitVec 32 := 1#32
  let arg17 : BitVec 32 := Scf.iv v212 c1_i32_92 k0_t6
  let v213 : Index := Scalar.indexCast arg17
  ![v213.toNat]
def k0_off18 (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_t6 : Fin (k0_t6_loop v33 v37 v41 v45 v49 v53 v57 v61 v65 v69 v73 v77 v81 v85 v89 v93 v97 v101 v105 v109 v113 v117 v121 v125 v129 v133 v137 v141 v145 v149 v153 v157).trips) : Fin 1 → Nat :=
  let c0_i32_16 : BitVec 32 := 0#32
  let c30720_i32 : BitVec 32 := 30720#32
  let v34 : BitVec 1 := Scalar.cmpi .sle v33 c30720_i32
  let v35 : BitVec 32 := Scalar.extui v34
  let v36 : BitVec 32 := Scalar.addi c0_i32_16 v35
  let c30720_i32_19 : BitVec 32 := 30720#32
  let v42 : BitVec 1 := Scalar.cmpi .sle v41 c30720_i32_19
  let v43 : BitVec 32 := Scalar.extui v42
  let v44 : BitVec 32 := Scalar.addi v36 v43
  let c30720_i32_22 : BitVec 32 := 30720#32
  let v50 : BitVec 1 := Scalar.cmpi .sle v49 c30720_i32_22
  let v51 : BitVec 32 := Scalar.extui v50
  let v52 : BitVec 32 := Scalar.addi v44 v51
  let c30720_i32_25 : BitVec 32 := 30720#32
  let v58 : BitVec 1 := Scalar.cmpi .sle v57 c30720_i32_25
  let v59 : BitVec 32 := Scalar.extui v58
  let v60 : BitVec 32 := Scalar.addi v52 v59
  let c30720_i32_28 : BitVec 32 := 30720#32
  let v66 : BitVec 1 := Scalar.cmpi .sle v65 c30720_i32_28
  let v67 : BitVec 32 := Scalar.extui v66
  let v68 : BitVec 32 := Scalar.addi v60 v67
  let c30720_i32_31 : BitVec 32 := 30720#32
  let v74 : BitVec 1 := Scalar.cmpi .sle v73 c30720_i32_31
  let v75 : BitVec 32 := Scalar.extui v74
  let v76 : BitVec 32 := Scalar.addi v68 v75
  let c30720_i32_34 : BitVec 32 := 30720#32
  let v82 : BitVec 1 := Scalar.cmpi .sle v81 c30720_i32_34
  let v83 : BitVec 32 := Scalar.extui v82
  let v84 : BitVec 32 := Scalar.addi v76 v83
  let c30720_i32_37 : BitVec 32 := 30720#32
  let v90 : BitVec 1 := Scalar.cmpi .sle v89 c30720_i32_37
  let v91 : BitVec 32 := Scalar.extui v90
  let v92 : BitVec 32 := Scalar.addi v84 v91
  let c30720_i32_40 : BitVec 32 := 30720#32
  let v98 : BitVec 1 := Scalar.cmpi .sle v97 c30720_i32_40
  let v99 : BitVec 32 := Scalar.extui v98
  let v100 : BitVec 32 := Scalar.addi v92 v99
  let c30720_i32_43 : BitVec 32 := 30720#32
  let v106 : BitVec 1 := Scalar.cmpi .sle v105 c30720_i32_43
  let v107 : BitVec 32 := Scalar.extui v106
  let v108 : BitVec 32 := Scalar.addi v100 v107
  let c30720_i32_46 : BitVec 32 := 30720#32
  let v114 : BitVec 1 := Scalar.cmpi .sle v113 c30720_i32_46
  let v115 : BitVec 32 := Scalar.extui v114
  let v116 : BitVec 32 := Scalar.addi v108 v115
  let c30720_i32_49 : BitVec 32 := 30720#32
  let v122 : BitVec 1 := Scalar.cmpi .sle v121 c30720_i32_49
  let v123 : BitVec 32 := Scalar.extui v122
  let v124 : BitVec 32 := Scalar.addi v116 v123
  let c30720_i32_52 : BitVec 32 := 30720#32
  let v130 : BitVec 1 := Scalar.cmpi .sle v129 c30720_i32_52
  let v131 : BitVec 32 := Scalar.extui v130
  let v132 : BitVec 32 := Scalar.addi v124 v131
  let c30720_i32_55 : BitVec 32 := 30720#32
  let v138 : BitVec 1 := Scalar.cmpi .sle v137 c30720_i32_55
  let v139 : BitVec 32 := Scalar.extui v138
  let v140 : BitVec 32 := Scalar.addi v132 v139
  let c30720_i32_58 : BitVec 32 := 30720#32
  let v146 : BitVec 1 := Scalar.cmpi .sle v145 c30720_i32_58
  let v147 : BitVec 32 := Scalar.extui v146
  let v148 : BitVec 32 := Scalar.addi v140 v147
  let c30720_i32_61 : BitVec 32 := 30720#32
  let v154 : BitVec 1 := Scalar.cmpi .sle v153 c30720_i32_61
  let v155 : BitVec 32 := Scalar.extui v154
  let v156 : BitVec 32 := Scalar.addi v148 v155
  let c2_i32_87 : BitVec 32 := 2#32
  let v206 : BitVec 32 := Scalar.addi v156 c2_i32_87
  let c0_i32_18 : BitVec 32 := 0#32
  let c32767_i32 : BitVec 32 := 32767#32
  let v38 : BitVec 1 := Scalar.cmpi .sle v37 c32767_i32
  let v39 : BitVec 32 := Scalar.extui v38
  let v40 : BitVec 32 := Scalar.addi c0_i32_18 v39
  let c32767_i32_21 : BitVec 32 := 32767#32
  let v46 : BitVec 1 := Scalar.cmpi .sle v45 c32767_i32_21
  let v47 : BitVec 32 := Scalar.extui v46
  let v48 : BitVec 32 := Scalar.addi v40 v47
  let c32767_i32_24 : BitVec 32 := 32767#32
  let v54 : BitVec 1 := Scalar.cmpi .sle v53 c32767_i32_24
  let v55 : BitVec 32 := Scalar.extui v54
  let v56 : BitVec 32 := Scalar.addi v48 v55
  let c32767_i32_27 : BitVec 32 := 32767#32
  let v62 : BitVec 1 := Scalar.cmpi .sle v61 c32767_i32_27
  let v63 : BitVec 32 := Scalar.extui v62
  let v64 : BitVec 32 := Scalar.addi v56 v63
  let c32767_i32_30 : BitVec 32 := 32767#32
  let v70 : BitVec 1 := Scalar.cmpi .sle v69 c32767_i32_30
  let v71 : BitVec 32 := Scalar.extui v70
  let v72 : BitVec 32 := Scalar.addi v64 v71
  let c32767_i32_33 : BitVec 32 := 32767#32
  let v78 : BitVec 1 := Scalar.cmpi .sle v77 c32767_i32_33
  let v79 : BitVec 32 := Scalar.extui v78
  let v80 : BitVec 32 := Scalar.addi v72 v79
  let c32767_i32_36 : BitVec 32 := 32767#32
  let v86 : BitVec 1 := Scalar.cmpi .sle v85 c32767_i32_36
  let v87 : BitVec 32 := Scalar.extui v86
  let v88 : BitVec 32 := Scalar.addi v80 v87
  let c32767_i32_39 : BitVec 32 := 32767#32
  let v94 : BitVec 1 := Scalar.cmpi .sle v93 c32767_i32_39
  let v95 : BitVec 32 := Scalar.extui v94
  let v96 : BitVec 32 := Scalar.addi v88 v95
  let c32767_i32_42 : BitVec 32 := 32767#32
  let v102 : BitVec 1 := Scalar.cmpi .sle v101 c32767_i32_42
  let v103 : BitVec 32 := Scalar.extui v102
  let v104 : BitVec 32 := Scalar.addi v96 v103
  let c32767_i32_45 : BitVec 32 := 32767#32
  let v110 : BitVec 1 := Scalar.cmpi .sle v109 c32767_i32_45
  let v111 : BitVec 32 := Scalar.extui v110
  let v112 : BitVec 32 := Scalar.addi v104 v111
  let c32767_i32_48 : BitVec 32 := 32767#32
  let v118 : BitVec 1 := Scalar.cmpi .sle v117 c32767_i32_48
  let v119 : BitVec 32 := Scalar.extui v118
  let v120 : BitVec 32 := Scalar.addi v112 v119
  let c32767_i32_51 : BitVec 32 := 32767#32
  let v126 : BitVec 1 := Scalar.cmpi .sle v125 c32767_i32_51
  let v127 : BitVec 32 := Scalar.extui v126
  let v128 : BitVec 32 := Scalar.addi v120 v127
  let c32767_i32_54 : BitVec 32 := 32767#32
  let v134 : BitVec 1 := Scalar.cmpi .sle v133 c32767_i32_54
  let v135 : BitVec 32 := Scalar.extui v134
  let v136 : BitVec 32 := Scalar.addi v128 v135
  let c32767_i32_57 : BitVec 32 := 32767#32
  let v142 : BitVec 1 := Scalar.cmpi .sle v141 c32767_i32_57
  let v143 : BitVec 32 := Scalar.extui v142
  let v144 : BitVec 32 := Scalar.addi v136 v143
  let c32767_i32_60 : BitVec 32 := 32767#32
  let v150 : BitVec 1 := Scalar.cmpi .sle v149 c32767_i32_60
  let v151 : BitVec 32 := Scalar.extui v150
  let v152 : BitVec 32 := Scalar.addi v144 v151
  let c32767_i32_63 : BitVec 32 := 32767#32
  let v158 : BitVec 1 := Scalar.cmpi .sle v157 c32767_i32_63
  let v159 : BitVec 32 := Scalar.extui v158
  let v160 : BitVec 32 := Scalar.addi v152 v159
  let c1_i32_88 : BitVec 32 := 1#32
  let v207 : BitVec 32 := Scalar.addi v160 c1_i32_88
  let v208 : BitVec 32 := Scalar.subi v207 v206
  let c1_i32_90 : BitVec 32 := 1#32
  let v210 : BitVec 32 := Scalar.divsi v208 c1_i32_90
  let v211 : BitVec 32 := Scalar.muli v210 c1_i32_90
  let v212 : BitVec 32 := Scalar.addi v206 v211
  let c1_i32_92 : BitVec 32 := 1#32
  let arg17 : BitVec 32 := Scf.iv v212 c1_i32_92 k0_t6
  let c1_i32_93 : BitVec 32 := 1#32
  let v217 : BitVec 32 := Scalar.addi arg17 c1_i32_93
  let v218 : Index := Scalar.indexCast v217
  ![v218.toNat]

def k0_chk6 (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) : Prop :=
  (∀ (k0_h9 : k0_cond9 i = 1#1), ∀ (k0_h10 : k0_cond10 v33 v37 v41 v45 v49 v53 v57 v61 v65 v69 v73 v77 v81 v85 v89 v93 v97 v101 v105 v109 v113 v117 v121 v125 v129 v133 v137 v141 v145 v149 v153 v157 = 1#1), ∀ (r : Fin 2), ∀ a, (k0_off14 v33 v41 v49 v57 v65 v73 v81 v89 v97 v105 v113 v121 v129 v137 v145 v153 (BitVec.ofNat 32 (1 + r.val))) a + S1.size a ≤ S17.size a) ∧
  (∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), (k0_t5_loop v33 v37 v41 v45 v49 v53 v57 v61 v65 v69 v73 v77 v81 v85 v89 v93 v97 v101 v105 v109 v113 v117 v121 v125 v129 v133 v137 v141 v145 v149 v153 v157).OK) ∧
  (∀ k0_t5 : Fin (k0_t5_loop v33 v37 v41 v45 v49 v53 v57 v61 v65 v69 v73 v77 v81 v85 v89 v93 v97 v101 v105 v109 v113 v117 v121 v125 v129 v133 v137 v141 v145 v149 v153 v157).trips, ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off15 v33 v37 v41 v45 v49 v53 v57 v61 v65 v69 v73 v77 v81 v85 v89 v93 v97 v101 v105 v109 v113 v117 v121 v125 v129 v133 v137 v141 v145 v149 v153 v157 k0_t5) a + S1.size a ≤ S17.size a) ∧
  (∀ k0_t5 : Fin (k0_t5_loop v33 v37 v41 v45 v49 v53 v57 v61 v65 v69 v73 v77 v81 v85 v89 v93 v97 v101 v105 v109 v113 v117 v121 v125 v129 v133 v137 v141 v145 v149 v153 v157).trips, ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off16 v33 v37 v41 v45 v49 v53 v57 v61 v65 v69 v73 v77 v81 v85 v89 v93 v97 v101 v105 v109 v113 v117 v121 v125 v129 v133 v137 v141 v145 v149 v153 v157 k0_t5) a + S1.size a ≤ S17.size a) ∧
  (∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), (k0_t6_loop v33 v37 v41 v45 v49 v53 v57 v61 v65 v69 v73 v77 v81 v85 v89 v93 v97 v101 v105 v109 v113 v117 v121 v125 v129 v133 v137 v141 v145 v149 v153 v157).OK) ∧
  (∀ k0_t6 : Fin (k0_t6_loop v33 v37 v41 v45 v49 v53 v57 v61 v65 v69 v73 v77 v81 v85 v89 v93 v97 v101 v105 v109 v113 v117 v121 v125 v129 v133 v137 v141 v145 v149 v153 v157).trips, ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off17 v33 v37 v41 v45 v49 v53 v57 v61 v65 v69 v73 v77 v81 v85 v89 v93 v97 v101 v105 v109 v113 v117 v121 v125 v129 v133 v137 v141 v145 v149 v153 v157 k0_t6) a + S1.size a ≤ S17.size a) ∧
  (∀ k0_t6 : Fin (k0_t6_loop v33 v37 v41 v45 v49 v53 v57 v61 v65 v69 v73 v77 v81 v85 v89 v93 v97 v101 v105 v109 v113 v117 v121 v125 v129 v133 v137 v141 v145 v149 v153 v157).trips, ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off18 v33 v37 v41 v45 v49 v53 v57 v61 v65 v69 v73 v77 v81 v85 v89 v93 v97 v101 v105 v109 v113 v117 v121 v125 v129 v133 v137 v141 v145 v149 v153 v157 k0_t6) a + S1.size a ≤ S17.size a)
theorem k0_off14_inb : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157), ∀ (k0_h9 : k0_cond9 i = 1#1), ∀ (k0_h10 : k0_cond10 v33 v37 v41 v45 v49 v53 v57 v61 v65 v69 v73 v77 v81 v85 v89 v93 v97 v101 v105 v109 v113 v117 v121 v125 v129 v133 v137 v141 v145 v149 v153 v157 = 1#1), ∀ (r : Fin 2), ∀ a, (k0_off14 v33 v41 v49 v57 v65 v73 v81 v89 v97 v105 v113 v121 v129 v137 v145 v153 (BitVec.ofNat 32 (1 + r.val))) a + S1.size a ≤ S17.size a := fun i v33 v37 v41 v45 v49 v53 v57 v61 v65 v69 v73 v77 v81 v85 v89 v93 v97 v101 v105 v109 v113 v117 v121 v125 v129 v133 v137 v141 v145 v149 v153 v157 k0_hw6 k0_h9 k0_h10 r => k0_hw6.1 k0_h9 k0_h10 r
theorem k0_t5_ok : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), (k0_t5_loop v33 v37 v41 v45 v49 v53 v57 v61 v65 v69 v73 v77 v81 v85 v89 v93 v97 v101 v105 v109 v113 v117 v121 v125 v129 v133 v137 v141 v145 v149 v153 v157).OK := fun i v33 v37 v41 v45 v49 v53 v57 v61 v65 v69 v73 v77 v81 v85 v89 v93 v97 v101 v105 v109 v113 v117 v121 v125 v129 v133 v137 v141 v145 v149 v153 v157 k0_hw6 k0_h9 k0_h11 => k0_hw6.2.1 k0_h9 k0_h11
theorem k0_off15_inb : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157) (k0_t5 : Fin (k0_t5_loop v33 v37 v41 v45 v49 v53 v57 v61 v65 v69 v73 v77 v81 v85 v89 v93 v97 v101 v105 v109 v113 v117 v121 v125 v129 v133 v137 v141 v145 v149 v153 v157).trips), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off15 v33 v37 v41 v45 v49 v53 v57 v61 v65 v69 v73 v77 v81 v85 v89 v93 v97 v101 v105 v109 v113 v117 v121 v125 v129 v133 v137 v141 v145 v149 v153 v157 k0_t5) a + S1.size a ≤ S17.size a := fun i v33 v37 v41 v45 v49 v53 v57 v61 v65 v69 v73 v77 v81 v85 v89 v93 v97 v101 v105 v109 v113 v117 v121 v125 v129 v133 v137 v141 v145 v149 v153 v157 k0_hw6 k0_t5 k0_h9 k0_h11 => k0_hw6.2.2.1 k0_t5 k0_h9 k0_h11
theorem k0_off16_inb : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157) (k0_t5 : Fin (k0_t5_loop v33 v37 v41 v45 v49 v53 v57 v61 v65 v69 v73 v77 v81 v85 v89 v93 v97 v101 v105 v109 v113 v117 v121 v125 v129 v133 v137 v141 v145 v149 v153 v157).trips), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off16 v33 v37 v41 v45 v49 v53 v57 v61 v65 v69 v73 v77 v81 v85 v89 v93 v97 v101 v105 v109 v113 v117 v121 v125 v129 v133 v137 v141 v145 v149 v153 v157 k0_t5) a + S1.size a ≤ S17.size a := fun i v33 v37 v41 v45 v49 v53 v57 v61 v65 v69 v73 v77 v81 v85 v89 v93 v97 v101 v105 v109 v113 v117 v121 v125 v129 v133 v137 v141 v145 v149 v153 v157 k0_hw6 k0_t5 k0_h9 k0_h11 => k0_hw6.2.2.2.1 k0_t5 k0_h9 k0_h11
theorem k0_t6_ok : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), (k0_t6_loop v33 v37 v41 v45 v49 v53 v57 v61 v65 v69 v73 v77 v81 v85 v89 v93 v97 v101 v105 v109 v113 v117 v121 v125 v129 v133 v137 v141 v145 v149 v153 v157).OK := fun i v33 v37 v41 v45 v49 v53 v57 v61 v65 v69 v73 v77 v81 v85 v89 v93 v97 v101 v105 v109 v113 v117 v121 v125 v129 v133 v137 v141 v145 v149 v153 v157 k0_hw6 k0_h9 k0_h11 => k0_hw6.2.2.2.2.1 k0_h9 k0_h11
theorem k0_off17_inb : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157) (k0_t6 : Fin (k0_t6_loop v33 v37 v41 v45 v49 v53 v57 v61 v65 v69 v73 v77 v81 v85 v89 v93 v97 v101 v105 v109 v113 v117 v121 v125 v129 v133 v137 v141 v145 v149 v153 v157).trips), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off17 v33 v37 v41 v45 v49 v53 v57 v61 v65 v69 v73 v77 v81 v85 v89 v93 v97 v101 v105 v109 v113 v117 v121 v125 v129 v133 v137 v141 v145 v149 v153 v157 k0_t6) a + S1.size a ≤ S17.size a := fun i v33 v37 v41 v45 v49 v53 v57 v61 v65 v69 v73 v77 v81 v85 v89 v93 v97 v101 v105 v109 v113 v117 v121 v125 v129 v133 v137 v141 v145 v149 v153 v157 k0_hw6 k0_t6 k0_h9 k0_h11 => k0_hw6.2.2.2.2.2.1 k0_t6 k0_h9 k0_h11
theorem k0_off18_inb : ∀ (i : grid0.Coords) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v85 : BitVec 32) (v89 : BitVec 32) (v93 : BitVec 32) (v97 : BitVec 32) (v101 : BitVec 32) (v105 : BitVec 32) (v109 : BitVec 32) (v113 : BitVec 32) (v117 : BitVec 32) (v121 : BitVec 32) (v125 : BitVec 32) (v129 : BitVec 32) (v133 : BitVec 32) (v137 : BitVec 32) (v141 : BitVec 32) (v145 : BitVec 32) (v149 : BitVec 32) (v153 : BitVec 32) (v157 : BitVec 32) (k0_hw6 : k0_chk6 i v33 v37 v41 v45 v49 v53 v57 v61 v65 v69 v73 v77 v81 v85 v89 v93 v97 v101 v105 v109 v113 v117 v121 v125 v129 v133 v137 v141 v145 v149 v153 v157) (k0_t6 : Fin (k0_t6_loop v33 v37 v41 v45 v49 v53 v57 v61 v65 v69 v73 v77 v81 v85 v89 v93 v97 v101 v105 v109 v113 v117 v121 v125 v129 v133 v137 v141 v145 v149 v153 v157).trips), ∀ (k0_h9 : k0_cond9 i = 1#1), ∀ (k0_h11 : k0_cond11 v33 v37 v41 v45 v49 v53 v57 v61 v65 v69 v73 v77 v81 v85 v89 v93 v97 v101 v105 v109 v113 v117 v121 v125 v129 v133 v137 v141 v145 v149 v153 v157 = 1#1), ∀ a, (k0_off18 v33 v37 v41 v45 v49 v53 v57 v61 v65 v69 v73 v77 v81 v85 v89 v93 v97 v101 v105 v109 v113 v117 v121 v125 v129 v133 v137 v141 v145 v149 v153 v157 k0_t6) a + S1.size a ≤ S17.size a := fun i v33 v37 v41 v45 v49 v53 v57 v61 v65 v69 v73 v77 v81 v85 v89 v93 v97 v101 v105 v109 v113 v117 v121 v125 v129 v133 v137 v141 v145 v149 v153 v157 k0_hw6 k0_t6 k0_h9 k0_h11 => k0_hw6.2.2.2.2.2.2 k0_t6 k0_h9 k0_h11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768x64 : Shape := ⟨2, ![32768, 64]⟩
abbrev S32768 : Shape := ⟨1, ![32768]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S32768x512 : Shape := ⟨2, ![32768, 512]⟩
abbrev S1x512 : Shape := ⟨2, ![1, 512]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x32768x1 : Shape := ⟨3, ![16, 32768, 1]⟩
abbrev S1x32768x512 : Shape := ⟨3, ![1, 32768, 512]⟩
abbrev S_ : Shape := ⟨0, ![]⟩
abbrev S16x32768x512 : Shape := ⟨3, ![16, 32768, 512]⟩
abbrev S16x512 : Shape := ⟨2, ![16, 512]⟩
abbrev S16x1024 : Shape := ⟨2, ![16, 1024]⟩
abbrev S1x1024 : Shape := ⟨2, ![1, 1024]⟩
abbrev S16x256x4 : Shape := ⟨3, ![16, 256, 4]⟩

abbrev nBuf : Space → Nat
  | .hbm => 31
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768, .i32⟩
  | .hbm, ⟨2, _⟩ => ⟨S64x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S32768x512, .f32⟩
  | .hbm, ⟨7, _⟩ => ⟨S1x512, .f32⟩
  | .hbm, ⟨8, _⟩ => ⟨S32768x512, .f32⟩
  | .hbm, ⟨9, _⟩ => ⟨S32768x512, .f32⟩
  | .hbm, ⟨10, _⟩ => ⟨S1x32768, .i32⟩
  | .hbm, ⟨11, _⟩ => ⟨S16, .i32⟩
  | .hbm, ⟨12, _⟩ => ⟨S16x1, .i32⟩
  | .hbm, ⟨13, _⟩ => ⟨S16x32768, .i32⟩
  | .hbm, ⟨14, _⟩ => ⟨S16x32768, .i32⟩
  | .hbm, ⟨15, _⟩ => ⟨S16x32768, .i1⟩
  | .hbm, ⟨16, _⟩ => ⟨S16x32768x1, .i1⟩
  | .hbm, ⟨17, _⟩ => ⟨S1x32768x512, .f32⟩
  | .hbm, ⟨18, _⟩ => ⟨S_, .f32⟩
  | .hbm, ⟨19, _⟩ => ⟨S_, .f32⟩
  | .hbm, ⟨20, _⟩ => ⟨S16x32768x512, .i1⟩
  | .hbm, ⟨21, _⟩ => ⟨S16x32768x512, .f32⟩
  | .hbm, ⟨22, _⟩ => ⟨S16x32768x512, .f32⟩
  | .hbm, ⟨23, _⟩ => ⟨S16x32768x512, .f32⟩
  | .hbm, ⟨24, _⟩ => ⟨S_, .f32⟩
  | .hbm, ⟨25, _⟩ => ⟨S16x512, .f32⟩
  | .hbm, ⟨26, _⟩ => ⟨S16x1024, .f32⟩
  | .hbm, ⟨27, _⟩ => ⟨S1x1024, .f32⟩
  | .hbm, ⟨28, _⟩ => ⟨S16x1024, .f32⟩
  | .hbm, ⟨29, _⟩ => ⟨S16x1024, .f32⟩
  | .hbm, ⟨30, _⟩ => ⟨S16x256x4, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Proof.Words.lean ====
/-
  The words of the segment table.

  The kernel is handed a table of 17 words: word `s` is the first row of segment `s`, word 16 the number of
  rows.  For a tile of rows starting at `b` it counts how many of the words 1 … 16 are at most `b` (the first
  segment that reaches into the tile) and how many are at most `b + 2047` (the last one).  This module names the
  two counts, says what they are as numbers, and derives from "the last word lies beyond the tile" every bound
  the body assumes of the table's words.
-/
module

public import proofs.«01_k».proof.Proof.Gen.KernelIdeal.Launch
public import proofs.«01_k».proof.Proof.Gen.KernelIdeal.Skeleton
public import Idealize.ShloMosaic.Lib.LoopRemainder
public import Idealize.ShloMosaic.Lib.Tactic
public import Idealize.ShloMosaic.Lib.WordCmp

@[expose] public section

noncomputable section

namespace Cert.KernelIdeal.Seg

open Cert.KernelIdeal Cert.KernelIdeal.Gen
open Idealize.ShloMosaic Idealize.ShloMosaic.TcCoe Idealize.ShloMosaic.Tactic

/-! ## Counting -/

/-- One more if the word `x` is at most `b`. -/
abbrev bump (n x b : BitVec 32) : BitVec 32 := Scalar.addi n (Scalar.extui (Scalar.cmpi .sle x b))

/-- How many of the sixteen words are at most `b`, counted one after the other as the kernel counts. -/
def cntLe (w : Fin 16 → BitVec 32) (b : BitVec 32) : BitVec 32 :=
  bump (bump (bump (bump (bump (bump (bump (bump (bump (bump (bump (bump (bump (bump (bump (bump 0#32 (w 0) b) (w 1) b)
    (w 2) b) (w 3) b) (w 4) b) (w 5) b) (w 6) b) (w 7) b) (w 8) b) (w 9) b) (w 10) b) (w 11) b) (w 12) b) (w 13) b)
    (w 14) b) (w 15) b

/-- Adding the bit "`x` is at most `b`" to a small number. -/
theorem bump_ofNat (n : ℕ) (x b : BitVec 32) :
    bump (BitVec.ofNat 32 n) x b = BitVec.ofNat 32 (n + if x.toInt ≤ b.toInt then 1 else 0) := by
  have e : bump (BitVec.ofNat 32 n) x b = BitVec.ofNat 32 n + (BitVec.ofBool (decide (x.toInt ≤ b.toInt))).setWidth 32 := rfl
  rw [e]
  by_cases h : x.toInt ≤ b.toInt <;> simp [h, BitVec.ofNat_add]

/-- The count is the number of words at most `b`. -/
theorem cntLe_eq (w : Fin 16 → BitVec 32) (b : BitVec 32) :
    cntLe w b = BitVec.ofNat 32 (∑ s : Fin 16, if (w s).toInt ≤ b.toInt then 1 else 0) := by
  have key : ∀ g : Fin 16 → ℕ, ∑ s : Fin 16, g s
      = 0 + g 0 + g 1 + g 2 + g 3 + g 4 + g 5 + g 6 + g 7 + g 8 + g 9 + g 10 + g 11 + g 12 + g 13 + g 14 + g 15 := by
    intro g
    rw [Nat.zero_add]
    simp only [Fin.sum_univ_castSucc, Finset.univ_eq_empty, Finset.sum_empty, Nat.zero_add]
    rfl
  rw [key]
  unfold cntLe
  simp only [bump_ofNat]

/-- The count as a number. -/
theorem cntLe_toNat (w : Fin 16 → BitVec 32) (b : BitVec 32) :
    (cntLe w b).toNat = ∑ s : Fin 16, if (w s).toInt ≤ b.toInt then 1 else 0 := by
  rw [cntLe_eq, BitVec.toNat_ofNat, Nat.mod_eq_of_lt]
  calc _ ≤ ∑ s : Fin 16, 1 := Finset.sum_le_sum fun s _ => by split <;> omega
    _ < _ := by simp

/-- If the last word lies beyond `b`, at most fifteen are at most `b`. -/
theorem cntLe_le (w : Fin 16 → BitVec 32) (b : BitVec 32) (h : b.toInt < (w 15).toInt) : (cntLe w b).toNat ≤ 15 := by
  rw [cntLe_toNat, Fin.sum_univ_castSucc]
  have h15 : ¬ ((w (Fin.last 15)).toInt ≤ b.toInt) := by
    rw [show Fin.last 15 = (15 : Fin 16) from rfl]; omega
  rw [if_neg h15]
  have : ∑ s : Fin 15, (if (w s.castSucc).toInt ≤ b.toInt then 1 else 0) ≤ ∑ _s : Fin 15, 1 :=
    Finset.sum_le_sum fun s _ => by split <;> omega
  simp only [Finset.sum_const, Finset.card_univ, Fintype.card_fin, smul_eq_mul] at this
  omega

/-! ## Words and the numbers they name -/

/-- A number's word, read signed. -/
theorem toInt_ofNat (n : ℕ) (h : n < 2 ^ 31) : (BitVec.ofNat 32 n).toInt = n := by
  rw [BitVec.toInt_eq_toNat_cond, BitVec.toNat_ofNat]; omega

/-- Words add as their numbers; -/
theorem addi_ofNat (a b : ℕ) : Scalar.addi (BitVec.ofNat 32 a) (BitVec.ofNat 32 b) = BitVec.ofNat 32 (a + b) := WordCmp.addi_ofNat a b

/-- and subtract. -/
theorem subi_ofNat (a b : ℕ) (h : b ≤ a) : Scalar.subi (BitVec.ofNat 32 a) (BitVec.ofNat 32 b) = BitVec.ofNat 32 (a - b) := by
  obtain ⟨k, rfl⟩ := Nat.exists_eq_add_of_le h
  show BitVec.ofNat 32 (b + k) - BitVec.ofNat 32 b = _
  rw [BitVec.ofNat_add, Nat.add_sub_cancel_left]
  rw [BitVec.add_comm, BitVec.add_sub_cancel]

/-- The branch word "`hi > x`" of the body. -/
abbrev gtC (hi x : BitVec 32) : BitVec 1 := Scalar.cmpi .ne (Scalar.extui (Scalar.cmpi .sgt hi x) : BitVec 32) 0#32

/-- The condition is the numbers' comparison. -/
theorem gtC_iff (hi x : ℕ) (hh : hi < 2 ^ 31) (hx : x < 2 ^ 31) : gtC (BitVec.ofNat 32 hi) (BitVec.ofNat 32 x) = 1#1 ↔ x < hi := by
  have e : gtC (BitVec.ofNat 32 hi) (BitVec.ofNat 32 x)
      = BitVec.ofBool (!((BitVec.ofBool (decide ((BitVec.ofNat 32 x).toInt < (BitVec.ofNat 32 hi).toInt))).setWidth 32 == 0#32)) := rfl
  rw [e, toInt_ofNat _ hh, toInt_ofNat _ hx]
  by_cases h : x < hi <;> simp [h]

/-- The loop over the segments after the second one that reaches into the tile. -/
abbrev segLoop (lo hi : BitVec 32) : Scf.Loop 32 :=
  ⟨Scalar.addi lo 2#32, Scalar.addi (Scalar.addi lo 2#32) (Scalar.muli (Scalar.divsi (Scalar.subi (Scalar.addi hi 1#32) (Scalar.addi lo 2#32)) 1#32) 1#32), 1#32⟩

/-- The remainder of that loop: from its end to its end. -/
abbrev remLoop (lo hi : BitVec 32) : Scf.Loop 32 :=
  ⟨Scalar.addi (Scalar.addi lo 2#32) (Scalar.muli (Scalar.divsi (Scalar.subi (Scalar.addi hi 1#32) (Scalar.addi lo 2#32)) 1#32) 1#32),
    Scalar.addi (Scalar.addi lo 2#32) (Scalar.subi (Scalar.addi hi 1#32) (Scalar.addi lo 2#32)), 1#32⟩

/-- The loop's bounds as numbers. -/
theorem segLoop_eq (l h : ℕ) (hlt : l + 1 < h) :
    segLoop (BitVec.ofNat 32 l) (BitVec.ofNat 32 h) = ⟨BitVec.ofNat 32 (l + 2), BitVec.ofNat 32 (h + 1), 1#32⟩ := by
  unfold segLoop
  rw [Scalar.muli_divsi_one, show (2#32 : BitVec 32) = BitVec.ofNat 32 2 from rfl, show Scalar.addi (BitVec.ofNat 32 h) 1#32 = _ from addi_ofNat h 1,
    addi_ofNat, subi_ofNat _ _ (by omega), addi_ofNat]
  rw [show l + 2 + (h + 1 - (l + 2)) = h + 1 by omega]

/-- The trips of a loop by one. -/
theorem trips_ofNat (a b : ℕ) (ha : a ≤ b) (hb : b < 2 ^ 31) : Scf.trips (BitVec.ofNat 32 a) (BitVec.ofNat 32 b) 1#32 = b - a := by
  unfold Scf.trips
  rw [toInt_ofNat _ hb, toInt_ofNat _ (by omega), show (1#32 : BitVec 32).toInt = 1 by decide]
  omega

/-- It runs over the segments `l + 2 … h`. -/
theorem segLoop_trips (l h : ℕ) (hlt : l + 1 < h) (hh : h ≤ 15) :
    (segLoop (BitVec.ofNat 32 l) (BitVec.ofNat 32 h)).trips = h - l - 1 := by
  rw [segLoop_eq _ _ hlt]
  exact (trips_ofNat _ _ (by omega) (by omega)).trans (by omega)

/-- The loop over the further segments is well-formed. -/
theorem segLoop_ok (l h : ℕ) (hlt : l + 1 < h) (hh : h ≤ 15) : (segLoop (BitVec.ofNat 32 l) (BitVec.ofNat 32 h)).OK := by
  rw [segLoop_eq _ _ hlt]
  refine ⟨show 0 < (1#32 : BitVec 32).toInt by decide, ?_⟩
  simp only
  rw [trips_ofNat _ _ (by omega) (by omega), toInt_ofNat _ (by omega), show (1#32 : BitVec 32).toInt = 1 by decide]
  omega

/-- The loop's variable at a trip. -/
theorem iv_ofNat (a k : ℕ) : Scf.iv (BitVec.ofNat 32 a) 1#32 k = BitVec.ofNat 32 (a + k) := by
  unfold Scf.iv; rw [BitVec.mul_one, BitVec.ofNat_add]

/-- The offset, of one word, that a word names. -/
abbrev at1 (n : BitVec 32) : Fin 1 → Nat := ![(Scalar.indexCast n : Index).toNat]

/-- The offset a number's word names. -/
theorem at1_ofNat (n : ℕ) (h : n < 2 ^ 31) : at1 (BitVec.ofNat 32 n) = ![n] := by
  unfold at1
  rw [show (Scalar.indexCast (BitVec.ofNat 32 n) : Index).toNat = n by
    simp [Scalar.indexCast, BitVec.toNat_ofNat]; omega]

/-- A number up to 16 names a word of the table. -/
theorem inb (n : ℕ) (h : n ≤ 16) (a : Fin 1) : at1 (BitVec.ofNat 32 n) a + S1.size a ≤ S17.size a := by
  rw [at1_ofNat _ (by omega)]
  fin_cases a
  show n + 1 ≤ 17
  omega

/-! ## What the body assumes of the words -/

/-- Everything assumed after the words are read, from "both counts are at most fifteen". -/
theorem bounds (lo hi : BitVec 32) (hlo : lo.toNat ≤ 15) (hhi : hi.toNat ≤ 15) :
    (gtC hi lo = 1#1 → ∀ r : Fin 2, ∀ a, at1 (Scalar.addi lo (BitVec.ofNat 32 (1 + r.val))) a + S1.size a ≤ S17.size a)
    ∧ (gtC hi (Scalar.addi lo 1#32) = 1#1 → (segLoop lo hi).OK)
    ∧ (∀ k : Fin (segLoop lo hi).trips, gtC hi (Scalar.addi lo 1#32) = 1#1 → ∀ a, at1 (Scf.iv (Scalar.addi lo 2#32) 1#32 k) a + S1.size a ≤ S17.size a)
    ∧ (∀ k : Fin (segLoop lo hi).trips, gtC hi (Scalar.addi lo 1#32) = 1#1 → ∀ a, at1 (Scalar.addi (Scf.iv (Scalar.addi lo 2#32) 1#32 k) 1#32) a + S1.size a ≤ S17.size a)
    ∧ (remLoop lo hi).OK := by
  obtain ⟨l, hl, rfl⟩ : ∃ l : ℕ, l ≤ 15 ∧ lo = BitVec.ofNat 32 l := ⟨lo.toNat, hlo, by simp⟩
  obtain ⟨h, hh, rfl⟩ : ∃ h : ℕ, h ≤ 15 ∧ hi = BitVec.ofNat 32 h := ⟨hi.toNat, hhi, by simp⟩
  have e1 : Scalar.addi (BitVec.ofNat 32 l) 1#32 = BitVec.ofNat 32 (l + 1) := addi_ofNat l 1
  have e2 : Scalar.addi (BitVec.ofNat 32 l) 2#32 = BitVec.ofNat 32 (l + 2) := addi_ofNat l 2
  refine ⟨fun hg r a => ?_, fun hg => ?_, fun k hg a => ?_, fun k hg a => ?_, Scf.rem_ok _ _⟩
  · rw [gtC_iff _ _ (by omega) (by omega)] at hg
    rw [addi_ofNat]; exact inb _ (by omega) a
  · rw [e1, gtC_iff _ _ (by omega) (by omega)] at hg
    exact segLoop_ok l h hg hh
  · rw [e1, gtC_iff _ _ (by omega) (by omega)] at hg
    have hk := lt_of_lt_of_eq k.isLt (segLoop_trips l h hg hh)
    rw [e2, iv_ofNat]; exact inb _ (by omega) a
  · rw [e1, gtC_iff _ _ (by omega) (by omega)] at hg
    have hk := lt_of_lt_of_eq k.isLt (segLoop_trips l h hg hh)
    rw [e2, iv_ofNat, show Scalar.addi (BitVec.ofNat 32 (l + 2 + k)) 1#32 = _ from addi_ofNat _ 1]; exact inb _ (by omega) a

/-- The word after a segment is in the table. -/
theorem bound1 (lo : BitVec 32) (hlo : lo.toNat ≤ 15) (a : Fin 1) : at1 (Scalar.addi lo 1#32) a + S1.size a ≤ S17.size a := by
  obtain ⟨l, hl, rfl⟩ : ∃ l : ℕ, l ≤ 15 ∧ lo = BitVec.ofNat 32 l := ⟨lo.toNat, hlo, by simp⟩
  rw [show Scalar.addi (BitVec.ofNat 32 l) 1#32 = _ from addi_ofNat l 1]; exact inb _ (by omega) a

/-- The first row of the tile before the grid point's. -/
abbrev prevRow (i : grid0.Coords) : BitVec 32 := Scalar.muli (Scalar.subi (BitVec.ofNat 32 (i 0).val) 1#32) 2048#32

section Checks
variable (i : grid0.Coords) (w : Fin 16 → BitVec 32)

/-- Both counts of the tile starting at row `b` are at most fifteen. -/
def Small (b : BitVec 32) : Prop := (cntLe w b).toNat ≤ 15 ∧ (cntLe w (Scalar.addi b 2047#32)).toNat ≤ 15

/-- The side conditions of an even point's first pass, -/
theorem chk1 (h : Small w (prevRow i)) : k0_chk1 i (w 0) (w 1) (w 2) (w 3) (w 4) (w 5) (w 6) (w 7) (w 8) (w 9) (w 10) (w 11) (w 12) (w 13) (w 14) (w 15) :=
  fun _ _ => bound1 _ h.1

/-- of an odd point's, -/
theorem chk3 (h : Small w (prevRow i)) : k0_chk3 i (w 0) (w 1) (w 2) (w 3) (w 4) (w 5) (w 6) (w 7) (w 8) (w 9) (w 10) (w 11) (w 12) (w 13) (w 14) (w 15) :=
  fun _ => bound1 _ h.1

/-- of the last point's second reduction, -/
theorem chk5 (h : Small w 30720#32) : k0_chk5 i (w 0) (w 1) (w 2) (w 3) (w 4) (w 5) (w 6) (w 7) (w 8) (w 9) (w 10) (w 11) (w 12) (w 13) (w 14) (w 15) :=
  fun _ => bound1 _ h.1

/-- of an even point's further passes, -/
theorem chk2 (h : Small w (prevRow i)) : k0_chk2 i (w 0) (w 0) (w 1) (w 1) (w 2) (w 2) (w 3) (w 3) (w 4) (w 4) (w 5) (w 5) (w 6) (w 6) (w 7) (w 7)
    (w 8) (w 8) (w 9) (w 9) (w 10) (w 10) (w 11) (w 11) (w 12) (w 12) (w 13) (w 13) (w 14) (w 14) (w 15) (w 15) := by
  obtain ⟨b1, b2, b3, b4, b5⟩ := bounds _ _ h.1 h.2
  exact ⟨fun _ _ => b1, fun _ _ => b2, fun k _ _ => b3 k, fun k _ _ => b4 k, fun _ _ _ => b5,
    fun k => (Scf.rem_no_trip _ _ k).elim, fun k => (Scf.rem_no_trip _ _ k).elim⟩

/-- of an odd point's, -/
theorem chk4 (h : Small w (prevRow i)) : k0_chk4 i (w 0) (w 0) (w 1) (w 1) (w 2) (w 2) (w 3) (w 3) (w 4) (w 4) (w 5) (w 5) (w 6) (w 6) (w 7) (w 7)
    (w 8) (w 8) (w 9) (w 9) (w 10) (w 10) (w 11) (w 11) (w 12) (w 12) (w 13) (w 13) (w 14) (w 14) (w 15) (w 15) := by
  obtain ⟨b1, b2, b3, b4, b5⟩ := bounds _ _ h.1 h.2
  exact ⟨fun _ => b1, fun _ => b2, fun k _ => b3 k, fun k _ => b4 k, fun _ _ => b5,
    fun k => (Scf.rem_no_trip _ _ k).elim, fun k => (Scf.rem_no_trip _ _ k).elim⟩

/-- and of the last point's second reduction. -/
theorem chk6 (h : Small w 30720#32) : k0_chk6 i (w 0) (w 0) (w 1) (w 1) (w 2) (w 2) (w 3) (w 3) (w 4) (w 4) (w 5) (w 5) (w 6) (w 6) (w 7) (w 7)
    (w 8) (w 8) (w 9) (w 9) (w 10) (w 10) (w 11) (w 11) (w 12) (w 12) (w 13) (w 13) (w 14) (w 14) (w 15) (w 15) := by
  obtain ⟨b1, b2, b3, b4, b5⟩ := bounds _ _ h.1 h.2
  exact ⟨fun _ => b1, fun _ => b2, fun k _ => b3 k, fun k _ => b4 k, fun _ _ => b5,
    fun k => (Scf.rem_no_trip _ _ k).elim, fun k => (Scf.rem_no_trip _ _ k).elim⟩

end Checks

/-! Each assumption's own name, so that a search by the assumption's head finds the right fact. -/

/-- The side condition, under a name of its own. -/
theorem head1 {i : grid0.Coords} {a0 a1 a2 a3 a4 a5 a6 a7 a8 a9 a10 a11 a12 a13 a14 a15 : BitVec 32} (h : k0_chk1 i a0 a1 a2 a3 a4 a5 a6 a7 a8 a9 a10 a11 a12 a13 a14 a15) : k0_chk1 i a0 a1 a2 a3 a4 a5 a6 a7 a8 a9 a10 a11 a12 a13 a14 a15 := h
/-- The side condition, under a name of its own. -/
theorem head2 {i : grid0.Coords} {a0 a1 a2 a3 a4 a5 a6 a7 a8 a9 a10 a11 a12 a13 a14 a15 a16 a17 a18 a19 a20 a21 a22 a23 a24 a25 a26 a27 a28 a29 a30 a31 : BitVec 32} (h : k0_chk2 i a0 a1 a2 a3 a4 a5 a6 a7 a8 a9 a10 a11 a12 a13 a14 a15 a16 a17 a18 a19 a20 a21 a22 a23 a24 a25 a26 a27 a28 a29 a30 a31) : k0_chk2 i a0 a1 a2 a3 a4 a5 a6 a7 a8 a9 a10 a11 a12 a13 a14 a15 a16 a17 a18 a19 a20 a21 a22 a23 a24 a25 a26 a27 a28 a29 a30 a31 := h
/-- The side condition, under a name of its own. -/
theorem head3 {i : grid0.Coords} {a0 a1 a2 a3 a4 a5 a6 a7 a8 a9 a10 a11 a12 a13 a14 a15 : BitVec 32} (h : k0_chk3 i a0 a1 a2 a3 a4 a5 a6 a7 a8 a9 a10 a11 a12 a13 a14 a15) : k0_chk3 i a0 a1 a2 a3 a4 a5 a6 a7 a8 a9 a10 a11 a12 a13 a14 a15 := h
/-- The side condition, under a name of its own. -/
theorem head4 {i : grid0.Coords} {a0 a1 a2 a3 a4 a5 a6 a7 a8 a9 a10 a11 a12 a13 a14 a15 a16 a17 a18 a19 a20 a21 a22 a23 a24 a25 a26 a27 a28 a29 a30 a31 : BitVec 32} (h : k0_chk4 i a0 a1 a2 a3 a4 a5 a6 a7 a8 a9 a10 a11 a12 a13 a14 a15 a16 a17 a18 a19 a20 a21 a22 a23 a24 a25 a26 a27 a28 a29 a30 a31) : k0_chk4 i a0 a1 a2 a3 a4 a5 a6 a7 a8 a9 a10 a11 a12 a13 a14 a15 a16 a17 a18 a19 a20 a21 a22 a23 a24 a25 a26 a27 a28 a29 a30 a31 := h
/-- The side condition, under a name of its own. -/
theorem head5 {i : grid0.Coords} {a0 a1 a2 a3 a4 a5 a6 a7 a8 a9 a10 a11 a12 a13 a14 a15 : BitVec 32} (h : k0_chk5 i a0 a1 a2 a3 a4 a5 a6 a7 a8 a9 a10 a11 a12 a13 a14 a15) : k0_chk5 i a0 a1 a2 a3 a4 a5 a6 a7 a8 a9 a10 a11 a12 a13 a14 a15 := h
/-- The side condition, under a name of its own. -/
theorem head6 {i : grid0.Coords} {a0 a1 a2 a3 a4 a5 a6 a7 a8 a9 a10 a11 a12 a13 a14 a15 a16 a17 a18 a19 a20 a21 a22 a23 a24 a25 a26 a27 a28 a29 a30 a31 : BitVec 32} (h : k0_chk6 i a0 a1 a2 a3 a4 a5 a6 a7 a8 a9 a10 a11 a12 a13 a14 a15 a16 a17 a18 a19 a20 a21 a22 a23 a24 a25 a26 a27 a28 a29 a30 a31) : k0_chk6 i a0 a1 a2 a3 a4 a5 a6 a7 a8 a9 a10 a11 a12 a13 a14 a15 a16 a17 a18 a19 a20 a21 a22 a23 a24 a25 a26 a27 a28 a29 a30 a31 := h

/-! The branch words of the three copies of the tile's passes, at the table's words. -/

/-- The second pass's condition at an even point, -/
theorem cond4 (i : grid0.Coords) (w : Fin 16 → BitVec 32) : k0_cond4 i (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi (prevRow i) 2047#32)) (cntLe w (prevRow i)) := rfl
/-- the further passes' there; -/
theorem cond5 (i : grid0.Coords) (w : Fin 16 → BitVec 32) : k0_cond5 i (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi (prevRow i) 2047#32)) (Scalar.addi (cntLe w (prevRow i)) 1#32) := rfl
/-- the second pass's at an odd point, -/
theorem cond7 (i : grid0.Coords) (w : Fin 16 → BitVec 32) : k0_cond7 i (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi (prevRow i) 2047#32)) (cntLe w (prevRow i)) := rfl
/-- the further passes' there; -/
theorem cond8 (i : grid0.Coords) (w : Fin 16 → BitVec 32) : k0_cond8 i (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi (prevRow i) 2047#32)) (Scalar.addi (cntLe w (prevRow i)) 1#32) := rfl
/-- the second pass's at the last point's second reduction, -/
theorem cond10 (w : Fin 16 → BitVec 32) : k0_cond10 (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi 30720#32 2047#32)) (cntLe w 30720#32) := rfl
/-- and the further passes'. -/
theorem cond11 (w : Fin 16 → BitVec 32) : k0_cond11 (w 0) (w 0) (w 1) (w 1) (w 2) (w 2) (w 3) (w 3) (w 4) (w 4) (w 5) (w 5) (w 6) (w 6) (w 7) (w 7) (w 8) (w 8) (w 9) (w 9) (w 10) (w 10) (w 11) (w 11) (w 12) (w 12) (w 13) (w 13) (w 14) (w 14) (w 15) (w 15) = gtC (cntLe w (Scalar.addi 30720#32 2047#32)) (Scalar.addi (cntLe w 30720#32) 1#32) := rfl

end Cert.KernelIdeal.Seg
end
-- ==== Proof.Pass.lean ====
/-
  One tile's share of the segment maxima, as a function of what the scratch holds.

  `upd` is one pass of the kernel: the rows of the tile that a mask picks are maximised column by column, and the
  result is merged into one row of the pooled array.  `reduceTile` is all passes of one tile: the first segment
  that reaches into it, the second, and then every further one.
-/
module

public import proofs.«01_k».proof.Proof.Words

@[expose] public section

noncomputable section

namespace Cert.KernelIdeal.Seg

open Cert.KernelIdeal Cert.KernelIdeal.Gen
open Idealize.ShloMosaic Idealize.ShloMosaic.TcCoe Idealize.ShloMosaic.Tactic

variable {F : FTy → Type} [FloatOps F]

/-! ## The buffers the body is handed -/

/-- The table of segment offsets. -/
abbrev aT : Memref sig .tc .smem S17 .i32 := Memref.whole main_call0_v7
/-- The first layer's bias. -/
abbrev aB1 : Memref sig .tc .hbm S1x512 .f32 := Memref.whole main_call0_v8
/-- The second layer's weights. -/
abbrev aW2 : Memref sig .tc .hbm S512x1024 .f32 := Memref.whole main_arg4
/-- The second layer's bias. -/
abbrev aB2 : Memref sig .tc .hbm S1x1024 .f32 := Memref.whole main_call0_v9
/-- The pooled array. -/
abbrev aP : Memref sig .tc .vmem S16x512 .f32 := Memref.whole cc0_scratch0
/-- The product buffer of even tiles. -/
abbrev aHa : Memref sig .tc .vmem S2048x512 .f32 := Memref.whole cc0_scratch1
/-- The product buffer of odd tiles. -/
abbrev aHb : Memref sig .tc .vmem S2048x512 .f32 := Memref.whole cc0_scratch2
/-- The kernel's copy of the second layer's weights. -/
abbrev aW2v : Memref sig .tc .vmem S512x1024 .f32 := Memref.whole cc0_scratch3
/-- The kernel's copy of the first layer's bias. -/
abbrev aB1v : Memref sig .tc .vmem S1x512 .f32 := Memref.whole cc0_scratch4
/-- The kernel's copy of the second layer's bias. -/
abbrev aB2v : Memref sig .tc .vmem S1x1024 .f32 := Memref.whole cc0_scratch5

/-! ## The table's words -/

/-- The table word at a constant position. -/
abbrev wdAt (T : S17.Idx → Elt F .i32) (n : ℕ) (h : ∀ a, (![n] : Fin 1 → ℕ) a + S1.size a ≤ S17.size a) : BitVec 32 :=
  View.readAt (Elt F) aT.view (Rect.unit (s := S17) ![n] S1.size h).toLoadRect T (Shape.Idx.first (show 0 < S1.numel by decide))

/-- The words 1 … 16 are in the table. -/
theorem wd_inb (s : Fin 16) (a : Fin 1) : (![s.val + 1] : Fin 1 → ℕ) a + S1.size a ≤ S17.size a := by
  fin_cases a
  show s.val + 1 + 1 ≤ 17
  omega

/-- The words 1 … 16 of the table. -/
def wds (T : S17.Idx → Elt F .i32) (s : Fin 16) : BitVec 32 := wdAt T (s.val + 1) (wd_inb s)

/-- The table word at the position another word names (0 outside the table). -/
def tat (T : S17.Idx → Elt F .i32) (n : BitVec 32) : BitVec 32 :=
  if h : ∀ a, at1 n a + S1.size a ≤ S17.size a then
    View.readAt (Elt F) aT.view (Rect.unit (s := S17) (at1 n) S1.size h).toLoadRect T (Shape.Idx.first (show 0 < S1.numel by decide))
  else 0#32

/-- A load of one word of the table is that word. -/
theorem tat_of (T : S17.Idx → Elt F .i32) (n : BitVec 32) (h : ∀ a, at1 n a + S1.size a ≤ S17.size a) :
    View.readAt (Elt F) aT.view (Rect.unit (s := S17) (at1 n) S1.size h).toLoadRect T (Shape.Idx.first (show 0 < S1.numel by decide)) = tat T n := by
  unfold tat; rw [dif_pos h]

/-! ## One pass -/

/-- The row numbers of the tile that starts at row `b`. -/
abbrev rows (b : BitVec 32) : IVec S2048x1 32 := k0_pay14 b

/-- The picked rows of `h`, maximised column by column and merged into row `s` of `P`. -/
def upd (mask : IVec S2048x1 1) (s : BitVec 32) (h : FVec F S2048x512 .f32) (P : FVec F S16x512 .f32) : FVec F S16x512 .f32 :=
  have ninf : F .f32 := Scalar.ofBits .f32 0xFF800000#32
  have hm : FVec F S2048x512 .f32 := select (broadcastTo S2048x512 (shapeCast S2048x1 mask shapeCasts_S2048x1_S2048x1) broadcasts_S2048x1_S2048x512) h (broadcast S2048x512 ninf)
  have mx : FVec F S512 .f32 := multiReduction .maximumf [0] S512 hm 0xFF800000#32 reduces_S2048x512_S512 (.inl rfl) rfl
  have row : FVec F S1x512 .f32 := shapeCast S1x512 (shapeCast S1x512 mx shapeCasts_S512_S1x512) shapeCasts_S1x512_S1x512
  have sel : IVec S16x1 1 := shapeCast S16x1 (cmpi .eq (iota .tc S16x1 32 [0] iota_S16x1_d0_w32) (broadcast S16x1 s)) shapeCasts_S16x1_S16x1
  shapeCast S16x512 (maximumf P (select (broadcastTo S16x512 sel broadcasts_S16x1_S16x512) (broadcastTo S16x512 row broadcasts_S1x512_S16x512) (broadcast S16x512 ninf))) shapeCasts_S16x512_S16x512

/-- The rows before row `e`, into row `s`. -/
abbrev passA (b s e : BitVec 32) (h : FVec F S2048x512 .f32) (P : FVec F S16x512 .f32) : FVec F S16x512 .f32 :=
  upd (cmpi .slt (rows b) (broadcast S2048x1 e)) s h P

/-- The rows from row `x` on and before row `e`, into row `s`. -/
abbrev passB (b s x e : BitVec 32) (h : FVec F S2048x512 .f32) (P : FVec F S16x512 .f32) : FVec F S16x512 .f32 :=
  upd (andi (cmpi .sge (rows b) (broadcast S2048x1 x)) (cmpi .slt (rows b) (broadcast S2048x1 e))) s h P

/-! ## All passes of one tile -/

section Tile
variable (T : S17.Idx → Elt F .i32) (b : BitVec 32) (h : FVec F S2048x512 .f32)

/-- The first segment that reaches into the tile from row `b`, and the last. -/
abbrev lo : BitVec 32 := cntLe (wds T) b
/-- The last segment that reaches into the tile. -/
abbrev hi : BitVec 32 := cntLe (wds T) (Scalar.addi b 2047#32)

/-- After the first segment's pass. -/
def red1 (P : FVec F S16x512 .f32) : FVec F S16x512 .f32 := passA b (lo T b) (tat T (Scalar.addi (lo T b) 1#32)) h P

/-- The second segment's pass. -/
def red2 (P : FVec F S16x512 .f32) : FVec F S16x512 .f32 :=
  passB b (Scalar.addi (lo T b) 1#32) (tat T (Scalar.addi (lo T b) 1#32)) (tat T (Scalar.addi (lo T b) 2#32)) h P

/-- After `k` of the further segments. -/
def red3 : ℕ → FVec F S16x512 .f32 → FVec F S16x512 .f32
  | 0, P => P
  | k + 1, P => passB b (Scf.iv (Scalar.addi (lo T b) 2#32) 1#32 k) (tat T (Scf.iv (Scalar.addi (lo T b) 2#32) 1#32 k))
      (tat T (Scalar.addi (Scf.iv (Scalar.addi (lo T b) 2#32) 1#32 k) 1#32)) h (red3 k P)

/-- After the first two segments' passes; the second only if it reaches into the tile. -/
def red12 (P : FVec F S16x512 .f32) : FVec F S16x512 .f32 :=
  if gtC (hi T b) (lo T b) = 1#1 then red2 T b h (red1 T b h P) else red1 T b h P

/-- What the pooled array holds after all passes of the tile. -/
def reduceTile (P : FVec F S16x512 .f32) : FVec F S16x512 .f32 :=
  if gtC (hi T b) (Scalar.addi (lo T b) 1#32) = 1#1 then red3 T b h (segLoop (lo T b) (hi T b)).trips (red12 T b h P) else red12 T b h P

/-- The second pass is made, -/
theorem red12_pos {T : S17.Idx → Elt F .i32} {b : BitVec 32} (hc : gtC (hi T b) (lo T b) = 1#1) (h : FVec F S2048x512 .f32) (P : FVec F S16x512 .f32) :
    red12 T b h P = red2 T b h (red1 T b h P) := if_pos hc

/-- or not. -/
theorem red12_neg {T : S17.Idx → Elt F .i32} {b : BitVec 32} (hc : ¬ gtC (hi T b) (lo T b) = 1#1) (h : FVec F S2048x512 .f32) (P : FVec F S16x512 .f32) :
    red12 T b h P = red1 T b h P := if_neg hc

/-- The further passes are made, -/
theorem reduceTile_pos {T : S17.Idx → Elt F .i32} {b : BitVec 32} (hc : gtC (hi T b) (Scalar.addi (lo T b) 1#32) = 1#1) (h : FVec F S2048x512 .f32)
    (P : FVec F S16x512 .f32) : reduceTile T b h P = red3 T b h (segLoop (lo T b) (hi T b)).trips (red12 T b h P) := if_pos hc

/-- or not. -/
theorem reduceTile_neg {T : S17.Idx → Elt F .i32} {b : BitVec 32} (hc : ¬ gtC (hi T b) (Scalar.addi (lo T b) 1#32) = 1#1) (h : FVec F S2048x512 .f32)
    (P : FVec F S16x512 .f32) : reduceTile T b h P = red12 T b h P := if_neg hc

end Tile

/-! ## The printed payloads are these passes -/

/-- The first segment's pass, at one of the places where it is printed. -/
theorem pay15_eq (b : BitVec 32) (n x : BitVec 32) (h : FVec F S2048x512 .f32) (e : BitVec 32) (P : FVec F S16x512 .f32) :
    k0_pay15 (iota .tc S16x1 32 [0] iota_S16x1_d0_w32) b n x h e P = passA b (bump n x b) e h P := rfl

/-- A later segment's pass, at one of the places where it is printed. -/
theorem pay3_eq (s b x e : BitVec 32) (h : FVec F S2048x512 .f32) (P : FVec F S16x512 .f32) :
    k0_pay3 s h (k0_pay14 b) x e P = passB b (Scalar.addi s 1#32) x e h P := rfl

/-- The first segment's pass, at one of the places where it is printed. -/
theorem pay6_eq (b : BitVec 32) (n x y z : BitVec 32) (h : FVec F S2048x512 .f32) (e : BitVec 32) (P : FVec F S16x512 .f32) :
    k0_pay6 (k0_pay18 (F := F) (iota .tc S16x1 32 [0] iota_S16x1_d0_w32) b n x y z) (k0_pay19 b h e) P = passA b (bump (bump (bump n x b) y b) z b) e h P := rfl

/-- The first segment's pass, at one of the places where it is printed. -/
theorem pay21_eq (n x : BitVec 32) (h : FVec F S2048x512 .f32) (e : BitVec 32) (P : FVec F S16x512 .f32) :
    k0_pay21 (iota .tc S16x1 32 [0] iota_S16x1_d0_w32) n x h e P = passA 30720#32 (bump n x 30720#32) e h P := rfl

/-- A later segment's pass, at one of the places where it is printed. -/
theorem pay7_eq (s b x e : BitVec 32) (h : FVec F S2048x512 .f32) (P : FVec F S16x512 .f32) :
    k0_pay7 s h (k0_pay17 b) x e P = passB b (Scalar.addi s 1#32) x e h P := rfl

/-- A later segment's pass, at one of the places where it is printed. -/
theorem pay10_eq (s x e : BitVec 32) (h : FVec F S2048x512 .f32) (P : FVec F S16x512 .f32) :
    k0_pay10 s h k0_pay20 x e P = passB 30720#32 (Scalar.addi s 1#32) x e h P := rfl

end Cert.KernelIdeal.Seg
end
-- ==== Proof.Hold.lean ====
/-
  How the body's buffers are held, and what whole loads and whole stores do to them.
-/
module

public import proofs.«01_k».proof.Proof.Pass
public import Idealize.ShloMosaic.Lib.Pipeline.FrameBody
public import Idealize.ShloMosaic.Lib.Pipeline.FrameSuffix

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel function at the buffers the launch hands it. -/
abbrev bodyG (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole) :=
  cc0__body (F := F) i aT (Memref.isWhole_whole _) aX hX aW hW aB1 (Memref.isWhole_whole _) aW2 (Memref.isWhole_whole _)
    aB2 (Memref.isWhole_whole _) aO hO aP (Memref.isWhole_whole _) aHa (Memref.isWhole_whole _) aHb (Memref.isWhole_whole _)
    aW2v (Memref.isWhole_whole _) aB1v (Memref.isWhole_whole _) aB2v (Memref.isWhole_whole _) cc0_scratch6 cc0_scratch7 cc0_scratch8

/-- A buffer held at its contents. -/
abbrev Pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-- A load of everything reads everything. -/
theorem readAt_all {κ sp S e} (v : View sig κ sp S e) (off : Fin S.rank → ℕ) (h0 : ∀ a, off a = 0) (inb) (f : v.ty.Contents (Elt F)) :
    v.readAt (Elt F) (Rect.unit (s := S) off S.size inb).toLoadRect f = v.read (Elt F) f := by
  funext y
  rw [View.readAt_apply]
  congr 1
  funext a
  apply Fin.ext
  show off a + 1 * (y a : ℕ) = _
  rw [h0 a]; omega

/-- A store of everything leaves what was stored. -/
theorem read_store_all {κ sp S e} (v : View sig κ sp S e) (off : Fin S.rank → ℕ) (h0 : ∀ a, off a = 0) (inb) (f : v.ty.Contents (Elt F))
    (x : S.Idx → Elt F e) (L : List (View.Piece (Elt F) S e)) :
    v.read (Elt F) (v.writes (Elt F) f (⟨Rect.unit (s := S) off S.size inb, x⟩ :: L)) = x := by
  funext y
  have h := View.read_writes_cons_emb v f (Rect.unit (s := S) off S.size inb) x L y
  have e : (Rect.unit (s := S) off S.size inb).emb y = y := by
    funext a
    apply Fin.ext
    show off a + 1 * (y a : ℕ) = _
    rw [h0 a]; omega
  rwa [e] at h

/-- The same of a whole buffer's contents. -/
theorem store_all {κ} (b : Ref sig κ) (off : Fin b.ty.shape.rank → ℕ) (h0 : ∀ a, off a = 0) (inb) (f : b.ty.Contents (Elt F))
    (x : b.ty.shape.Idx → Elt F b.ty.elt) (L : List (View.Piece (Elt F) b.ty.shape b.ty.elt)) :
    (Memref.whole b).view.writes (Elt F) f (⟨Rect.unit (s := b.ty.shape) off b.ty.shape.size inb, x⟩ :: L) = x := by
  have h := read_store_all (F := F) (Memref.whole b).view off h0 inb f x L
  exact h

/-- A buffer's contents replaced by equal ones. -/
theorem pt_eq {c : Dev nD} {sp : Space} {S : Shape} {e : EltTy} {M : Memref sig .tc sp S e} {q : PosShare TreeShare}
    {f g : Buf (Elt F) (M.view.loc (c : Thread nD τ))} (h : f = g) : Pt c M q f ⊢ Pt c M q g := h ▸ .rfl

/-- A load of everything after a store of everything reads what was stored. -/
theorem readCov_all {κ sp S e} (v : View sig κ sp S e) (off : Fin S.rank → ℕ) (h0 : ∀ a, off a = 0) (inb inb')
    (x : S.Idx → Elt F e) (L : List (View.Piece (Elt F) S e)) :
    v.readCov (⟨Rect.unit (s := S) off S.size inb, x⟩ :: L) (Rect.unit (s := S) off S.size inb').toLoadRect = x :=
  (readAt_all v off h0 inb' _).trans (read_store_all v off h0 inb _ x L)

/-- The offsets of a whole load are zero. -/
theorem z2 : ∀ a : Fin 2, (![0, 0] : Fin 2 → ℕ) a = 0 := by decide

/-! ## The passes on what memory holds

Each of the tile's passes, with its operands spelt as the loads they come from. -/

/-- The table word loaded at the position a word names. -/
abbrev rd (T : S17.Idx → Elt F .i32) (n : BitVec 32) (h : ∀ a, at1 n a + S1.size a ≤ S17.size a) : BitVec 32 :=
  View.readAt (Elt F) aT.view (Rect.unit (s := S17) (at1 n) S1.size h).toLoadRect T (Shape.Idx.first (show 0 < S1.numel by decide))

/-- A whole load of a tile of `h`, and of the pooled array. -/
abbrev ldH (aH : Memref sig .tc .vmem S2048x512 .f32) (h : aH.view.ty.Contents (Elt F)) : S2048x512.Idx → Elt F .f32 :=
  View.readAt (Elt F) aH.view (Rect.unit (s := S2048x512) ![0, 0] S2048x512.size inb_S2048x512_S2048x512_0_0).toLoadRect h
/-- A whole load of the pooled array. -/
abbrev ldP (p : S16x512.Idx → Elt F .f32) : S16x512.Idx → Elt F .f32 :=
  View.readAt (Elt F) aP.view (Rect.unit (s := S16x512) ![0, 0] S16x512.size inb_S16x512_S16x512_0_0).toLoadRect p

section Mem
variable (T : S17.Idx → Elt F .i32) (b : BitVec 32) (aH : Memref sig .tc .vmem S2048x512 .f32) (h : aH.view.ty.Contents (Elt F))

/-- The first segment's pass on the loads it is made of. -/
theorem mem1 (h1) (p : S16x512.Idx → Elt F .f32) :
    passA b (lo T b) (rd T (Scalar.addi (lo T b) 1#32) h1) (ldH aH h) (ldP p) = red1 T b (aH.view.read (Elt F) h) p := by
  rw [show rd T _ h1 = _ from tat_of T _ h1, show ldH aH h = _ from readAt_all aH.view ![0, 0] z2 _ _,
    show ldP p = _ from readAt_all aP.view ![0, 0] z2 _ _]
  rfl

/-- The second segment's pass, which loads what the first stored. -/
theorem mem2 (h1 h2) (x : S16x512.Idx → Elt F .f32) (L : List (View.Piece (Elt F) S16x512 .f32)) :
    passB b (Scalar.addi (lo T b) 1#32) (rd T (Scalar.addi (lo T b) 1#32) h1) (rd T (Scalar.addi (lo T b) 2#32) h2) (ldH aH h)
      (aP.view.readCov (⟨Rect.unit (s := S16x512) ![0, 0] S16x512.size inb_S16x512_S16x512_0_0, x⟩ :: L)
        (Rect.unit (s := S16x512) ![0, 0] S16x512.size inb_S16x512_S16x512_0_0).toLoadRect)
      = red2 T b (aH.view.read (Elt F) h) x := by
  rw [show rd T _ h1 = _ from tat_of T _ h1, show rd T _ h2 = _ from tat_of T _ h2, show ldH aH h = _ from readAt_all aH.view ![0, 0] z2 _ _,
    readCov_all aP.view ![0, 0] z2]
  rfl

/-- A further segment's pass on the loads it is made of. -/
theorem mem3 (k : ℕ) (h1 h2) (p : S16x512.Idx → Elt F .f32) :
    passB b (Scf.iv (Scalar.addi (lo T b) 2#32) 1#32 k) (rd T (Scf.iv (Scalar.addi (lo T b) 2#32) 1#32 k) h1)
      (rd T (Scalar.addi (Scf.iv (Scalar.addi (lo T b) 2#32) 1#32 k) 1#32) h2) (ldH aH h) (ldP (red3 T b (aH.view.read (Elt F) h) k p))
      = red3 T b (aH.view.read (Elt F) h) (k + 1) p := by
  rw [show rd T _ h1 = _ from tat_of T _ h1, show rd T _ h2 = _ from tat_of T _ h2, show ldH aH h = _ from readAt_all aH.view ![0, 0] z2 _ _,
    show ldP _ = _ from readAt_all aP.view ![0, 0] z2 _ _]
  rfl

end Mem

end Cert.KernelIdeal.Seg
end
-- ==== Proof.Even.lean ====
/-
  One grid point of the body at an even point past the first: the tile's product goes to the first buffer, and the tile
  before it, held by the second buffer, is reduced into the pooled array.
-/
module

public import proofs.«01_k».proof.Proof.Hold

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 400000 in
/-- An even point past the first. -/
theorem even (c : Dev nD) (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole)
    (h1 : ¬ (Scalar.cmpi .ne (Scalar.extui (Scalar.cmpi .eq (BitVec.ofNat 32 (i 0).val) 0#32) : BitVec 32) 0#32 = 1#1))
    (h2 : k0_cond2 i = 1#1) (h3 : k0_cond3 i = 1#1) (h6 : ¬ k0_cond6 i = 1#1) (h9 : ¬ k0_cond9 i = 1#1)
    (T x w p ha hb) (hS : Small (wds T) (prevRow i))
    (K : PUnit → sProp 𝕄) :
    iprop(Pt c aT fullShare.right T ∗ Pt c aX fullShare x ∗ Pt c aW fullShare w ∗ Pt c aP fullShare p ∗ Pt c aHa fullShare ha ∗ Pt c aHb fullShare hb
      ∗ (iprop(Pt c aT fullShare.right T ∗ Pt c aX fullShare x ∗ Pt c aW fullShare w ∗ Pt c aP fullShare (reduceTile T (prevRow i) hb p)
          ∗ Pt c aHa fullShare (k0_pay2 (aX.view.read (Elt F) x) (aW.view.read (Elt F) w)) ∗ Pt c aHb fullShare hb) -∗ K ⟨⟩))
     ⊢ wp frame (wpE (defs₀ (F := F)) Variants.none c none) Set.univ (bodyG i aX hX aW hW aO hO) K := by
  have hchk1 := chk1 i (wds T) hS
  have hchk2 := chk2 i (wds T) hS
  iintro ⟨HT, HX, HW, HP, HA, HB, Hk⟩
  unfold bodyG
  sl_unfold [cc0__body]
  sl_exec (disch := first | ((with_reducible refine head1 ?_); exact hchk1) | ((with_reducible refine head2 ?_); exact hchk2))
  ihave HA := (pt_eq (M := aHa) (g := k0_pay2 (aX.view.read (Elt F) x) (aW.view.read (Elt F) w)) ?_) $$ HA
  · exact (store_all cc0_scratch1 ![0, 0] z2 _ _ _ _).trans
     (congrArg₂ k0_pay2 (readAt_all aX.view ![0, 0] z2 _ x) (readAt_all aW.view ![0, 0] z2 _ w))
  ihave HP := (pt_eq (M := aP) (g := red12 T (prevRow i) hb p) ?_) $$ HP
  · by_cases hc : gtC (hi T (prevRow i)) (lo T (prevRow i)) = 1#1
    · exact (dif_pos hc).trans ((store_all cc0_scratch0 ![0, 0] z2 _ _ _ _).trans ((mem2 T (prevRow i) aHb hb _ _ _ _).trans
        ((congrArg (red2 T (prevRow i) hb) (mem1 T (prevRow i) aHb hb _ p)).trans (red12_pos hc hb p).symm)))
    · exact (dif_neg hc).trans ((store_all cc0_scratch0 ![0, 0] z2 _ _ _ _).trans ((mem1 T (prevRow i) aHb hb _ p).trans (red12_neg hc hb p).symm))
  rcases Classical.em (k0_cond5 i (wds T 0) (wds T 0) (wds T 1) (wds T 1) (wds T 2) (wds T 2) (wds T 3) (wds T 3) (wds T 4) (wds T 4) (wds T 5) (wds T 5) (wds T 6) (wds T 6) (wds T 7) (wds T 7) (wds T 8) (wds T 8) (wds T 9) (wds T 9) (wds T 10) (wds T 10) (wds T 11) (wds T 11) (wds T 12) (wds T 12) (wds T 13) (wds T 13) (wds T 14) (wds T 14) (wds T 15) (wds T 15) = 1#1) with hg | hg
  · sl_exec
    sl_for (fun k _ => iprop(Pt c aT fullShare.right T ∗ Pt c aHb fullShare hb ∗ Pt c aP fullShare (red3 T (prevRow i) hb k (red12 T (prevRow i) hb p)))) $$ [HT HB HP]
    case region =>
      intro k a
      iintro ⟨HT, HB, HP⟩
      sl_exec
      sl_step
      isplitl [HT]; · iexact HT
      isplitl [HB]; · iexact HB
      ihave HP := (pt_eq (M := aP) (g := red3 T (prevRow i) hb (k + 1) (red12 T (prevRow i) hb p)) ?_) $$ HP
      · exact (store_all cc0_scratch0 ![0, 0] z2 _ _ _ _).trans (mem3 T (prevRow i) aHb hb k _ _ _)
      iexact HP
    · isplitl [HT]; · iexact HT
      isplitl [HB]; · iexact HB
      iexact HP
    iintro %_ ⟨HT, HB, HP⟩
    sl_exec
    sl_step
    ihave HP := (pt_eq (M := aP) (g := reduceTile T (prevRow i) hb p) ?_) $$ HP
    · exact (reduceTile_pos ((cond5 i (wds T)).symm.trans hg) hb p).symm
    iapply Hk
    isplitl [HT]; · iexact HT
    isplitl [HX]; · iexact HX
    isplitl [HW]; · iexact HW
    isplitl [HP]; · iexact HP
    isplitl [HA]; · iexact HA
    iexact HB
  · sl_exec
    sl_step
    ihave HP := (pt_eq (M := aP) (g := reduceTile T (prevRow i) hb p) ?_) $$ HP
    · exact (reduceTile_neg (fun h => hg ((cond5 i (wds T)).trans h)) hb p).symm
    iapply Hk
    isplitl [HT]; · iexact HT
    isplitl [HX]; · iexact HX
    isplitl [HW]; · iexact HW
    isplitl [HP]; · iexact HP
    isplitl [HA]; · iexact HA
    iexact HB

end Cert.KernelIdeal.Seg
end
-- ==== Proof.Odd.lean ====
/-
  One grid point of the body at an odd point before the last: the tile's product goes to the second buffer, and the tile
  before it, held by the first buffer, is reduced into the pooled array.
-/
module

public import proofs.«01_k».proof.Proof.Hold

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 400000 in
/-- An odd point before the last. -/
theorem odd (c : Dev nD) (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole)
    (h1 : ¬ (Scalar.cmpi .ne (Scalar.extui (Scalar.cmpi .eq (BitVec.ofNat 32 (i 0).val) 0#32) : BitVec 32) 0#32 = 1#1))
    (h2 : ¬ k0_cond2 i = 1#1) (h6 : k0_cond6 i = 1#1) (h9 : ¬ k0_cond9 i = 1#1)
    (T x w p ha hb) (hS : Small (wds T) (prevRow i))
    (K : PUnit → sProp 𝕄) :
    iprop(Pt c aT fullShare.right T ∗ Pt c aX fullShare x ∗ Pt c aW fullShare w ∗ Pt c aP fullShare p ∗ Pt c aHa fullShare ha ∗ Pt c aHb fullShare hb
      ∗ (iprop(Pt c aT fullShare.right T ∗ Pt c aX fullShare x ∗ Pt c aW fullShare w ∗ Pt c aP fullShare (reduceTile T (prevRow i) ha p)
          ∗ Pt c aHa fullShare ha ∗ Pt c aHb fullShare (k0_pay16 (aX.view.read (Elt F) x) (aW.view.read (Elt F) w))) -∗ K ⟨⟩))
     ⊢ wp frame (wpE (defs₀ (F := F)) Variants.none c none) Set.univ (bodyG i aX hX aW hW aO hO) K := by
  have hchk3 := chk3 i (wds T) hS
  have hchk4 := chk4 i (wds T) hS
  iintro ⟨HT, HX, HW, HP, HA, HB, Hk⟩
  unfold bodyG
  sl_unfold [cc0__body]
  sl_exec (disch := first | ((with_reducible refine head3 ?_); exact hchk3) | ((with_reducible refine head4 ?_); exact hchk4))
  ihave HB := (pt_eq (M := aHb) (g := k0_pay16 (aX.view.read (Elt F) x) (aW.view.read (Elt F) w)) ?_) $$ HB
  · exact (store_all cc0_scratch2 ![0, 0] z2 _ _ _ _).trans
     (congrArg₂ k0_pay16 (readAt_all aX.view ![0, 0] z2 _ x) (readAt_all aW.view ![0, 0] z2 _ w))
  ihave HP := (pt_eq (M := aP) (g := red12 T (prevRow i) ha p) ?_) $$ HP
  · by_cases hc : gtC (hi T (prevRow i)) (lo T (prevRow i)) = 1#1
    · exact (dif_pos hc).trans ((store_all cc0_scratch0 ![0, 0] z2 _ _ _ _).trans ((mem2 T (prevRow i) aHa ha _ _ _ _).trans
        ((congrArg (red2 T (prevRow i) ha) (mem1 T (prevRow i) aHa ha _ p)).trans (red12_pos hc ha p).symm)))
    · exact (dif_neg hc).trans ((store_all cc0_scratch0 ![0, 0] z2 _ _ _ _).trans ((mem1 T (prevRow i) aHa ha _ p).trans (red12_neg hc ha p).symm))
  rcases Classical.em (k0_cond8 i (wds T 0) (wds T 0) (wds T 1) (wds T 1) (wds T 2) (wds T 2) (wds T 3) (wds T 3) (wds T 4) (wds T 4) (wds T 5) (wds T 5) (wds T 6) (wds T 6) (wds T 7) (wds T 7) (wds T 8) (wds T 8) (wds T 9) (wds T 9) (wds T 10) (wds T 10) (wds T 11) (wds T 11) (wds T 12) (wds T 12) (wds T 13) (wds T 13) (wds T 14) (wds T 14) (wds T 15) (wds T 15) = 1#1) with hg | hg
  · sl_exec
    sl_for (fun k _ => iprop(Pt c aT fullShare.right T ∗ Pt c aHa fullShare ha ∗ Pt c aP fullShare (red3 T (prevRow i) ha k (red12 T (prevRow i) ha p)))) $$ [HT HA HP]
    case region =>
      intro k a
      iintro ⟨HT, HA, HP⟩
      sl_exec
      sl_step
      isplitl [HT]; · iexact HT
      isplitl [HA]; · iexact HA
      ihave HP := (pt_eq (M := aP) (g := red3 T (prevRow i) ha (k + 1) (red12 T (prevRow i) ha p)) ?_) $$ HP
      · exact (store_all cc0_scratch0 ![0, 0] z2 _ _ _ _).trans (mem3 T (prevRow i) aHa ha k _ _ _)
      iexact HP
    · isplitl [HT]; · iexact HT
      isplitl [HA]; · iexact HA
      iexact HP
    iintro %_ ⟨HT, HA, HP⟩
    sl_exec
    sl_step
    ihave HP := (pt_eq (M := aP) (g := reduceTile T (prevRow i) ha p) ?_) $$ HP
    · exact (reduceTile_pos ((cond8 i (wds T)).symm.trans hg) ha p).symm
    iapply Hk
    isplitl [HT]; · iexact HT
    isplitl [HX]; · iexact HX
    isplitl [HW]; · iexact HW
    isplitl [HP]; · iexact HP
    isplitl [HA]; · iexact HA
    iexact HB
  · sl_exec
    sl_step
    ihave HP := (pt_eq (M := aP) (g := reduceTile T (prevRow i) ha p) ?_) $$ HP
    · exact (reduceTile_neg (fun h => hg ((cond8 i (wds T)).trans h)) ha p).symm
    iapply Hk
    isplitl [HT]; · iexact HT
    isplitl [HX]; · iexact HX
    isplitl [HW]; · iexact HW
    isplitl [HP]; · iexact HP
    isplitl [HA]; · iexact HA
    iexact HB

end Cert.KernelIdeal.Seg
end
-- ==== Proof.First.lean ====
/-
  The first grid point of the body: the pooled array is cleared, the second layer's three operands set off for their
  buffers, and the first tile's product goes to the first buffer.
-/
module

public import proofs.«01_k».proof.Proof.Hold

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A transfer landing on all of a buffer leaves what it carried. -/
theorem land_all {κ} (b : Ref sig κ) (f x : b.ty.Contents (Elt F)) :
    (Memref.whole b).view.writes (Elt F) f [⟨Rect.whole b.ty.shape, x⟩] = x := by
  have h : ∀ y, (Memref.whole b).view.read (Elt F) ((Memref.whole b).view.writes (Elt F) f [⟨Rect.whole b.ty.shape, x⟩]) y = x y := by
    intro y
    have h := View.read_writes_cons_emb (Memref.whole b).view f (Rect.whole b.ty.shape) x [] y
    rwa [show (Rect.whole b.ty.shape).emb y = y from by
      funext a
      apply Fin.ext
      show 0 + 1 * (y a : ℕ) = _
      omega] at h
  exact funext h

/-- A transfer in flight: what it will have landed, and the source it hands back. -/
abbrev Fly (c : Dev nD) (s : DmaSem sig) (N : ℕ) {sp sp' : Space} {S S' : Shape} {e e' : EltTy} (D : Memref sig .tc sp S e)
    (f : Buf (Elt F) (D.view.loc (c : Thread nD τ))) (M : Memref sig .tc sp' S' e') (g : Buf (Elt F) (M.view.loc (c : Thread nD τ))) : sProp 𝕄 :=
  Transfers.Flight countersEmb (c : Thread nD τ) (SemLoc.dma s) () N iprop(Pt c D fullShare f ∗ Pt c M fullShare g)

set_option maxHeartbeats 400000 in
/-- The first point's run: what it is given and what it leaves. -/
theorem first (c : Dev nD) (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole)
    (h1 : (Scalar.cmpi .ne (Scalar.extui (Scalar.cmpi .eq (BitVec.ofNat 32 (i 0).val) 0#32) : BitVec 32) 0#32 = 1#1))
    (h2 : k0_cond2 i = 1#1) (h3 : ¬ k0_cond3 i = 1#1) (h6 : ¬ k0_cond6 i = 1#1) (h9 : ¬ k0_cond9 i = 1#1)
    (x w p ha w2 b1 b2 v2 v1 v3)
    (K : PUnit → sProp 𝕄) :
    iprop(Pt c aX fullShare x ∗ Pt c aW fullShare w ∗ Pt c aP fullShare p ∗ Pt c aHa fullShare ha
      ∗ Pt c aW2 fullShare w2 ∗ Pt c aB1 fullShare b1 ∗ Pt c aB2 fullShare b2 ∗ Pt c aW2v fullShare v2 ∗ Pt c aB1v fullShare v1 ∗ Pt c aB2v fullShare v3
      ∗ semVal ((c : Thread nD τ), SemLoc.dma cc0_scratch6.sem) 0 ∗ semVal ((c : Thread nD τ), SemLoc.dma cc0_scratch7.sem) 0 ∗ semVal ((c : Thread nD τ), SemLoc.dma cc0_scratch8.sem) 0
      ∗ (iprop(Pt c aX fullShare x ∗ Pt c aW fullShare w ∗ Pt c aP fullShare k0_pay1
          ∗ Pt c aHa fullShare (k0_pay2 (aX.view.read (Elt F) x) (aW.view.read (Elt F) w))
          ∗ Fly c cc0_scratch6.sem 65536 aW2v w2 aW2 w2 ∗ Fly c cc0_scratch7.sem 64 aB1v b1 aB1 b1 ∗ Fly c cc0_scratch8.sem 128 aB2v b2 aB2 b2) -∗ K ⟨⟩))
     ⊢ wp frame (wpE (defs₀ (F := F)) Variants.none c none) Set.univ (bodyG i aX hX aW hW aO hO) K := by
  iintro ⟨HX, HW, HP, HA, HW2, HB1, HB2, HV2, HV1, HV3, HS2, HS1, HS3, Hk⟩
  unfold bodyG
  sl_unfold [cc0__body]
  sl_exec
  ihave HA := (pt_eq (M := aHa) (g := k0_pay2 (aX.view.read (Elt F) x) (aW.view.read (Elt F) w)) ?_) $$ HA
  · exact (store_all cc0_scratch1 ![0, 0] z2 _ _ _ _).trans
     (congrArg₂ k0_pay2 (readAt_all aX.view ![0, 0] z2 _ x) (readAt_all aW.view ![0, 0] z2 _ w))
  sl_step
  ihave HP := (pt_eq (M := aP) (g := k0_pay1) ?_) $$ HP
  · exact store_all cc0_scratch0 ![0, 0] z2 _ _ _ _
  ihave HS2 := (Transfers.Flight_mono (EC := countersEmb) (c := (c : Thread nD τ)) (h := sep_mono (pt_eq (M := aW2v) (g := w2) ?_) .rfl)) $$ HS2
  · exact land_all cc0_scratch3 v2 w2
  ihave HS1 := (Transfers.Flight_mono (EC := countersEmb) (c := (c : Thread nD τ)) (h := sep_mono (pt_eq (M := aB1v) (g := b1) ?_) .rfl)) $$ HS1
  · exact land_all cc0_scratch4 v1 b1
  ihave HS3 := (Transfers.Flight_mono (EC := countersEmb) (c := (c : Thread nD τ)) (h := sep_mono (pt_eq (M := aB2v) (g := b2) ?_) .rfl)) $$ HS3
  · exact land_all cc0_scratch5 v3 b2
  iapply Hk
  isplitl [HX]; · iexact HX
  isplitl [HW]; · iexact HW
  isplitl [HP]; · iexact HP
  isplitl [HA]; · iexact HA
  isplitl [HS2]; · iexact HS2
  isplitl [HS1]; · iexact HS1
  iexact HS3

end Cert.KernelIdeal.Seg
end
-- ==== Proof.Last.lean ====
/-
  The last grid point of the body: the tile before the last and the last tile are reduced, the second layer's operands
  are waited for, and the result is stored.
-/
module

public import proofs.«01_k».proof.Proof.First

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 800000 in
/-- The last point. -/
theorem last (c : Dev nD) (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole)
    (h1 : ¬ (Scalar.cmpi .ne (Scalar.extui (Scalar.cmpi .eq (BitVec.ofNat 32 (i 0).val) 0#32) : BitVec 32) 0#32 = 1#1))
    (h2 : ¬ k0_cond2 i = 1#1) (h6 : k0_cond6 i = 1#1) (h9 : k0_cond9 i = 1#1)
    (T x w o p ha hb w2 b1 b2) (W : Waits sig Unit) (hS : Small (wds T) (prevRow i)) (hL : Small (wds T) 30720#32)
    (K : PUnit → sProp 𝕄) :
    iprop(Pt c aT fullShare.right T ∗ Pt c aX fullShare x ∗ Pt c aW fullShare w ∗ Pt c aO fullShare o ∗ Pt c aP fullShare p
      ∗ Pt c aHa fullShare ha ∗ Pt c aHb fullShare hb
      ∗ Fly c cc0_scratch6.sem 65536 aW2v w2 aW2 w2 ∗ Fly c cc0_scratch7.sem 64 aB1v b1 aB1 b1 ∗ Fly c cc0_scratch8.sem 128 aB2v b2 aB2 b2
      ∗ owes (c : Thread nD τ) 0 W
      ∗ (iprop(Pt c aT fullShare.right T ∗ Pt c aX fullShare x ∗ Pt c aW fullShare w
          ∗ (∃ g, ⌜aO.view.read (Elt F) g = k0_pay13 (reduceTile T 30720#32 (k0_pay16 (aX.view.read (Elt F) x) (aW.view.read (Elt F) w))
              (reduceTile T (prevRow i) ha p)) b1 w2 b2⌝ ∗ Pt c aO fullShare g)
          ∗ (∃ p', Pt c aP fullShare p') ∗ Pt c aHa fullShare ha ∗ (∃ hb', Pt c aHb fullShare hb')
          ∗ Pt c aW2v fullShare w2 ∗ Pt c aB1v fullShare b1 ∗ Pt c aB2v fullShare b2
          ∗ Pt c aW2 fullShare w2 ∗ Pt c aB1 fullShare b1 ∗ Pt c aB2 fullShare b2
          ∗ semVal ((c : Thread nD τ), SemLoc.dma cc0_scratch6.sem) 0 ∗ semVal ((c : Thread nD τ), SemLoc.dma cc0_scratch7.sem) 0
          ∗ semVal ((c : Thread nD τ), SemLoc.dma cc0_scratch8.sem) 0 ∗ (∃ W', owes (c : Thread nD τ) 0 W')) -∗ K ⟨⟩))
     ⊢ wp frame (wpE (defs₀ (F := F)) Variants.none c none) Set.univ (bodyG i aX hX aW hW aO hO) K := by
  have hchk3 := chk3 i (wds T) hS
  have hchk4 := chk4 i (wds T) hS
  have hchk5 := chk5 i (wds T) hL
  have hchk6 := chk6 i (wds T) hL
  iintro ⟨HT, HX, HW, HO, HP, HA, HB, HS2, HS1, HS3, Hw, Hk⟩
  unfold bodyG
  sl_unfold [cc0__body]
  sl_exec (disch := first | ((with_reducible refine head3 ?_); exact hchk3) | ((with_reducible refine head4 ?_); exact hchk4))
  ihave HB := (pt_eq (M := aHb) (g := k0_pay16 (aX.view.read (Elt F) x) (aW.view.read (Elt F) w)) ?_) $$ HB
  · exact (store_all cc0_scratch2 ![0, 0] z2 _ _ _ _).trans
     (congrArg₂ k0_pay16 (readAt_all aX.view ![0, 0] z2 _ x) (readAt_all aW.view ![0, 0] z2 _ w))
  generalize k0_pay16 (aX.view.read (Elt F) x) (aW.view.read (Elt F) w) = hn
  ihave HP := (pt_eq (M := aP) (g := red12 T (prevRow i) ha p) ?_) $$ HP
  · by_cases hc : gtC (hi T (prevRow i)) (lo T (prevRow i)) = 1#1
    · exact (dif_pos hc).trans ((store_all cc0_scratch0 ![0, 0] z2 _ _ _ _).trans ((mem2 T (prevRow i) aHa ha _ _ _ _).trans
        ((congrArg (red2 T (prevRow i) ha) (mem1 T (prevRow i) aHa ha _ p)).trans (red12_pos hc ha p).symm)))
    · exact (dif_neg hc).trans ((store_all cc0_scratch0 ![0, 0] z2 _ _ _ _).trans ((mem1 T (prevRow i) aHa ha _ p).trans (red12_neg hc ha p).symm))
  rcases Classical.em (k0_cond8 i (wds T 0) (wds T 0) (wds T 1) (wds T 1) (wds T 2) (wds T 2) (wds T 3) (wds T 3) (wds T 4) (wds T 4) (wds T 5) (wds T 5) (wds T 6) (wds T 6) (wds T 7) (wds T 7) (wds T 8) (wds T 8) (wds T 9) (wds T 9) (wds T 10) (wds T 10) (wds T 11) (wds T 11) (wds T 12) (wds T 12) (wds T 13) (wds T 13) (wds T 14) (wds T 14) (wds T 15) (wds T 15) = 1#1) with hg | hg
  on_goal 1 =>
    sl_exec
    sl_for (fun k _ => iprop(Pt c aT fullShare.right T ∗ Pt c aHa fullShare ha ∗ Pt c aP fullShare (red3 T (prevRow i) ha k (red12 T (prevRow i) ha p)))) $$ [HT HA HP]
    case region =>
      intro k a
      iintro ⟨HT, HA, HP⟩
      sl_exec
      sl_step
      isplitl [HT]; · iexact HT
      isplitl [HA]; · iexact HA
      ihave HP := (pt_eq (M := aP) (g := red3 T (prevRow i) ha (k + 1) (red12 T (prevRow i) ha p)) ?_) $$ HP
      · exact (store_all cc0_scratch0 ![0, 0] z2 _ _ _ _).trans (mem3 T (prevRow i) aHa ha k _ _ _)
      iexact HP
    · isplitl [HT]; · iexact HT
      isplitl [HA]; · iexact HA
      iexact HP
    iintro %_ ⟨HT, HA, HP⟩
    ihave HP := (pt_eq (M := aP) (g := reduceTile T (prevRow i) ha p) ?_) $$ HP
    · exact (reduceTile_pos ((cond8 i (wds T)).symm.trans hg) ha p).symm
  on_goal 2 =>
    ihave HP := (pt_eq (M := aP) (g := reduceTile T (prevRow i) ha p) ?_) $$ HP
    · exact (reduceTile_neg (fun h => hg ((cond8 i (wds T)).trans h)) ha p).symm
  all_goals
    generalize reduceTile T (prevRow i) ha p = q
    sl_exec (disch := first | ((with_reducible refine head5 ?_); exact hchk5) | ((with_reducible refine head6 ?_); exact hchk6))
    ihave HP := (pt_eq (M := aP) (g := red12 T 30720#32 hn q) ?_) $$ HP
    · by_cases hc : gtC (hi T 30720#32) (lo T 30720#32) = 1#1
      · exact (dif_pos hc).trans ((store_all cc0_scratch0 ![0, 0] z2 _ _ _ _).trans ((mem2 T 30720#32 aHb hn _ _ _ _).trans
          ((congrArg (red2 T 30720#32 hn) (mem1 T 30720#32 aHb hn _ q)).trans (red12_pos hc hn q).symm)))
      · exact (dif_neg hc).trans ((store_all cc0_scratch0 ![0, 0] z2 _ _ _ _).trans ((mem1 T 30720#32 aHb hn _ q).trans (red12_neg hc hn q).symm))
    rcases Classical.em (k0_cond11 (wds T 0) (wds T 0) (wds T 1) (wds T 1) (wds T 2) (wds T 2) (wds T 3) (wds T 3) (wds T 4) (wds T 4) (wds T 5) (wds T 5) (wds T 6) (wds T 6) (wds T 7) (wds T 7) (wds T 8) (wds T 8) (wds T 9) (wds T 9) (wds T 10) (wds T 10) (wds T 11) (wds T 11) (wds T 12) (wds T 12) (wds T 13) (wds T 13) (wds T 14) (wds T 14) (wds T 15) (wds T 15) = 1#1) with hn' | hn'
    on_goal 1 =>
      sl_exec
      sl_for (fun k _ => iprop(Pt c aT fullShare.right T ∗ Pt c aHb fullShare hn ∗ Pt c aP fullShare (red3 T 30720#32 hn k (red12 T 30720#32 hn q)))) $$ [HT HB HP]
      case region =>
        intro k a
        iintro ⟨HT, HB, HP⟩
        sl_exec
        sl_step
        isplitl [HT]; · iexact HT
        isplitl [HB]; · iexact HB
        ihave HP := (pt_eq (M := aP) (g := red3 T 30720#32 hn (k + 1) (red12 T 30720#32 hn q)) ?_) $$ HP
        · exact (store_all cc0_scratch0 ![0, 0] z2 _ _ _ _).trans (mem3 T 30720#32 aHb hn k _ _ _)
        iexact HP
      · isplitl [HT]; · iexact HT
        isplitl [HB]; · iexact HB
        iexact HP
      iintro %_ ⟨HT, HB, HP⟩
      ihave HP := (pt_eq (M := aP) (g := reduceTile T 30720#32 hn q) ?_) $$ HP
      · exact (reduceTile_pos ((cond11 (wds T)).symm.trans hn') hn q).symm
    on_goal 2 =>
      ihave HP := (pt_eq (M := aP) (g := reduceTile T 30720#32 hn q) ?_) $$ HP
      · exact (reduceTile_neg (fun h => hn' ((cond11 (wds T)).trans h)) hn q).symm
    all_goals
      generalize reduceTile T 30720#32 hn q = r
      sl_exec
      sl_step
      iapply Hk
      isplitl [HT]; · iexact HT
      isplitl [HX]; · iexact HX
      isplitl [HW]; · iexact HW
      isplitl [HO]
      · iexists _
        isplitr
        pick_goal 2
        · iexact HO
        ipureintro
        refine (read_store_all aO.view ![0, 0] z2 _ _ _ _).trans ?_
        rw [readAt_all aP.view ![0, 0] z2, readAt_all aB1v.view ![0, 0] z2, readAt_all aW2v.view ![0, 0] z2, readAt_all aB2v.view ![0, 0] z2]
        rfl
      isplitl [HP]; · iexists _; iexact HP
      isplitl [HA]; · iexact HA
      isplitl [HB]; · iexists _; iexact HB
      isplitl [HS2_dst]; · iexact HS2_dst
      isplitl [HS1_dst]; · iexact HS1_dst
      isplitl [HS3_dst]; · iexact HS3_dst
      isplitl [HS2_src]; · iexact HS2_src
      isplitl [HS1_src]; · iexact HS1_src
      isplitl [HS3_src]; · iexact HS3_src
      isplitl [HS2]; · iexact HS2
      isplitl [HS1]; · iexact HS1
      isplitl [HS3]; · iexact HS3
      iexists _; iexact Hw

end Cert.KernelIdeal.Seg
end
-- ==== Proof.State.lean ====
/-
  What memory holds between grid points: the pooled array after the tiles reduced so far, the product buffers, and the
  second layer's operands, which are on their way from the first point to the last.
-/
module

public import proofs.«01_k».proof.Proof.Even
public import proofs.«01_k».proof.Proof.Odd
public import proofs.«01_k».proof.Proof.Last
public import proofs.«01_k».proof.Proof.Gen.KernelIdeal.Launch

@[expose] public section

noncomputable section

namespace Cert.KernelIdeal.Seg

open Cert.KernelIdeal Cert.KernelIdeal.Gen
open Idealize.ShloMosaic Idealize.ShloMosaic.TcCoe Idealize.ShloMosaic.Tactic
open Idealize.ShloMosaic.Pipeline (Dat)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What every buffer holds when the kernel starts: the host's operations before it have run. -/
def V0 (c : Dev nD) : Valuation τ sig (Elt F) := StableHlo.after (hostOps0 (F := F)) (fun b => m (c, b))

/-- A buffer of the core's at the kernel's start. -/
abbrev V0r (c : Dev nD) (b : Ref sig .tc) : Buf (Elt F) ((c : Thread nD τ).loc b) := V0 m c (Proc.devRef .tc b)

/-- The table of segment offsets. -/
abbrev tbl : S17.Idx → Elt F .i32 := V0r m 0 main_call0_v7

/-- The tables as the launch takes them. -/
abbrev admOf (V : (b : Ref sig .tc) → Buf (Elt F) (((0 : Dev nD) : Thread nD τ).loc b)) : (p : Fin 1) → (pcfgs (F := F) p).Adm :=
  fun _ => ⟨fun k => V (pre0.ref k), trivial⟩

/-- The launch's table is what the table's buffer holds. -/
theorem admOf_0 (V : (b : Ref sig .tc) → Buf (Elt F) (((0 : Dev nD) : Thread nD τ).loc b)) : (admOf V 0).1 0 = V main_call0_v7 := rfl

/-- The table at the kernel's start. -/
abbrev adm : (p : Fin 1) → (pcfgs (F := F) p).Adm := admOf (V0r m 0)

/-- The launch at that table. -/
abbrev cfgT : Pipeline.Cfg sig Λ₀ := cfg0 (adm m 0)

/-- An input window's block at a grid point. -/
def iblk (c : Dev nD) (w : Fin 3) (t : Fin (cfgT m).N) : ((cfgT m).win w).block.Idx → Elt F ((cfgT m).win w).elt :=
  (((cfgT m).win w).blk t).view.read (Elt F) (V0r m c (Pipeline.arrRef spec0 w))

/-- The grid point a number names. -/
def pt (n : ℕ) : Fin (cfgT m).N := ⟨n % 16, by show n % 16 < grid0.N; rw [N_0]; omega⟩

/-- A grid point's number names it. -/
theorem pt_val (t : Fin (cfgT m).N) : pt m t.val = t := by
  apply Fin.ext
  have h : t.val < grid0.N := t.isLt
  rw [N_0] at h
  show t.val % 16 = t.val
  omega

/-- The tile's product `x @ W1`. -/
def prod (c : Dev nD) (n : ℕ) : S2048x512.Idx → Elt F .f32 := k0_pay2 (iblk m c 0 (pt m n)) (iblk m c 1 (pt m n))

/-- The first row of a tile, as a word. -/
def row0 (n : ℕ) : BitVec 32 := BitVec.ofNat 32 (2048 * n)

/-- The pooled array once the first `n` tiles are reduced. -/
def pooled (c : Dev nD) : ℕ → S16x512.Idx → Elt F .f32
  | 0 => k0_pay1
  | n + 1 => reduceTile (tbl m) (row0 n) (prod m c n) (pooled c n)

/-- The result block. -/
def result (c : Dev nD) : S16x1024.Idx → Elt F .f32 :=
  k0_pay13 (pooled m c 16) (V0r m c main_call0_v8) (V0r m c main_arg4) (V0r m c main_call0_v9)

/-! ## The pieces of memory the launch hands over -/

/-- The core's own DMA semaphores. -/
abbrev osem0 : Fin 3 → SemLoc sig := fun j => (![SemLoc.dma cc0_scratch6.sem, SemLoc.dma cc0_scratch7.sem, SemLoc.dma cc0_scratch8.sem] : Fin 3 → SemLoc sig) j
/-- The kernel's own semaphores are no window's. -/
theorem ownSemFacts0 : Pipeline.OwnSemFacts spec0 osem0 := by decide

/-- The arrays the body copies from by itself. -/
def H0 : Finset (Ref sig .tc) := {main_arg4, main_call0_v8, main_call0_v9}
/-- Those arrays are no window's and no table. -/
theorem H0_sub : H0 ⊆ Pipeline.restRefsP sig pre0 spec0 := by decide

/-- The three semaphores' counters, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch6.sem) 0 ∗ semVal ((c : Thread nD τ), SemLoc.dma cc0_scratch7.sem) 0
          ∗ semVal ((c : Thread nD τ), SemLoc.dma cc0_scratch8.sem) 0) := by
  rw [Pipeline.ownSems0_eq_of_list c osem0 [0, 1, 2] (by decide) (by decide)]; rfl

/-- The three arrays, listed. -/
theorem held0_eq (c : Dev nD) (V : (b : Ref sig .tc) → Buf (Elt F) ((c : Thread nD τ).loc b)) :
    (bigSep H0 (fun b => ((c : Thread nD τ).loc b) ↦{fullShare} V b) : sProp 𝕄)
      = iprop(Pt c aW2 fullShare (V main_arg4) ∗ Pt c aB1 fullShare (V main_call0_v8) ∗ Pt c aB2 fullShare (V main_call0_v9)) := by
  rw [BI.bigSep_eq_bigSepL_of_eq [main_arg4, main_call0_v8, main_call0_v9] (by decide) (by decide)]
  simp only [Pt, Memref.view_whole, View.set_whole]; rfl

/-- The table, as a piece of memory. -/
theorem table_eq (c : Dev nD) (v : pre0.Contents (Elt F)) :
    (Pipeline.ΦT pre0 v c : sProp 𝕄) = Pt c aT fullShare.right (v 0) := by
  unfold Pipeline.ΦT Pipeline.prefHeld
  rw [bigSep_univ_eq_bigSepL [(0 : Fin 1)] (by decide) (by decide)]
  simp only [Pt, Memref.view_whole, View.set_whole]; rfl

/-- Before the first point and after the last: every scratch buffer at something, the semaphores at zero. -/
def atRest (c : Dev nD) : sProp 𝕄 :=
  iprop(Pipeline.ΦD osem0 spec0 H0 (fun c b => V0r m c b) c ∗ Pipeline.ΦT pre0 (adm m 0).1 c)

/-- The buffers the launch hands the kernel, listed. -/
theorem rest_eq (V : (c : Dev nD) → (b : Ref sig .tc) → Buf (Elt F) ((c : Thread nD τ).loc b)) (v : pre0.Contents (Elt F)) (c : Dev nD) :
    (iprop(Pipeline.ΦD osem0 spec0 H0 V c ∗ Pipeline.ΦT pre0 v c) : sProp 𝕄)
    = iprop((((∃ f, Pt c aP fullShare f) ∗ (∃ f, Pt c aHa fullShare f) ∗ (∃ f, Pt c aHb fullShare f) ∗ (∃ f, Pt c aW2v fullShare f)
          ∗ (∃ f, Pt c aB1v fullShare f) ∗ (∃ f, Pt c aB2v fullShare f))
        ∗ (∃ r, prngReg c r)
        ∗ (semVal ((c : Thread nD τ), SemLoc.dma cc0_scratch6.sem) 0 ∗ semVal ((c : Thread nD τ), SemLoc.dma cc0_scratch7.sem) 0
          ∗ semVal ((c : Thread nD τ), SemLoc.dma cc0_scratch8.sem) 0)
        ∗ (Pt c aW2 fullShare (V c main_arg4) ∗ Pt c aB1 fullShare (V c main_call0_v8) ∗ Pt c aB2 fullShare (V c main_call0_v9)))
        ∗ Pt c aT fullShare.right (v 0)) := by
  rw [Pipeline.ΦD_eq, scopedRest0_eq, ownSems00_eq, held0_eq, table_eq]
  simp only [Pt, Memref.view_whole, View.set_whole]

/-- What is held before the first and after the last point, listed. -/
theorem atRest_eq (c : Dev nD) : atRest m c
    = iprop((((∃ f, Pt c aP fullShare f) ∗ (∃ f, Pt c aHa fullShare f) ∗ (∃ f, Pt c aHb fullShare f) ∗ (∃ f, Pt c aW2v fullShare f)
          ∗ (∃ f, Pt c aB1v fullShare f) ∗ (∃ f, Pt c aB2v fullShare f))
        ∗ (∃ r, prngReg c r)
        ∗ (semVal ((c : Thread nD τ), SemLoc.dma cc0_scratch6.sem) 0 ∗ semVal ((c : Thread nD τ), SemLoc.dma cc0_scratch7.sem) 0
          ∗ semVal ((c : Thread nD τ), SemLoc.dma cc0_scratch8.sem) 0)
        ∗ (Pt c aW2 fullShare (V0r m c main_arg4) ∗ Pt c aB1 fullShare (V0r m c main_call0_v8) ∗ Pt c aB2 fullShare (V0r m c main_call0_v9)))
        ∗ Pt c aT fullShare.right (tbl m)) := by
  unfold atRest
  rw [rest_eq, admOf_0]

/-- Between two points, `n` of them done: the tile before is in its buffer, those before it are reduced, the second
    layer's operands are on their way. -/
def between (c : Dev nD) (n : ℕ) : sProp 𝕄 :=
  iprop(∃ (ha : S2048x512.Idx → Elt F .f32) (hb : S2048x512.Idx → Elt F .f32), ⌜(n % 2 = 1 → ha = prod m c (n - 1)) ∧ (n % 2 = 0 → hb = prod m c (n - 1))⌝
    ∗ Pt c aT fullShare.right (tbl m) ∗ Pt c aP fullShare (pooled m c (n - 1)) ∗ Pt c aHa fullShare ha ∗ Pt c aHb fullShare hb
    ∗ Fly c cc0_scratch6.sem 65536 aW2v (V0r m c main_arg4) aW2 (V0r m c main_arg4)
    ∗ Fly c cc0_scratch7.sem 64 aB1v (V0r m c main_call0_v8) aB1 (V0r m c main_call0_v8)
    ∗ Fly c cc0_scratch8.sem 128 aB2v (V0r m c main_call0_v9) aB2 (V0r m c main_call0_v9) ∗ (∃ r, prngReg c r))

/-- What the body keeps from point to point. -/
def kept (c : Dev nD) (n : ℕ) : sProp 𝕄 := if n = 0 ∨ n = 16 then atRest m c else between m c n

/-- The launch's data: its arrays at the kernel's start, what each window's buffer holds after the body. -/
def dats (_ : Fin 1) (c : Dev nD) : Dat τ (Elt F) Unit ℕ (Pipeline.UD sig nD τ) ℕ (cfgT m) c where
  A w := V0r m c (Pipeline.arrRef spec0 w)
  after w t := match w with
    | ⟨0, _⟩ => iblk m c 0 t
    | ⟨1, _⟩ => iblk m c 1 t
    | ⟨2, _⟩ => result m c
  Φ t := kept m c t.val
  q _ := fullShare
  owed _ := 0

/-- A window's array at the kernel's start. -/
theorem A_eq (c : Dev nD) (w : Fin 3) : (dats m 0 c).A w = V0r m c (Pipeline.arrRef spec0 w) := by dsimp only [dats]
/-- The rows' block after a point, -/
theorem after_0 (c : Dev nD) (t) : (dats m 0 c).after (0 : Fin 3) t = iblk m c 0 t := by dsimp only [dats]
/-- the weights', -/
theorem after_1 (c : Dev nD) (t) : (dats m 0 c).after (1 : Fin 3) t = iblk m c 1 t := by dsimp only [dats]
/-- and the result's. -/
theorem after_2 (c : Dev nD) (t) : (dats m 0 c).after (2 : Fin 3) t = result m c := by dsimp only [dats]

/-- The rows' block before a point, -/
theorem before_0 (c : Dev nD) (t) (d) : (dats m 0 c).before (0 : Fin 3) t d = iblk m c 0 t :=
  (Dat.before_in_eq_fetched (dats m 0 c) (0 : Fin 3) rfl (fun _ => rfl) (fun _ _ _ => rfl) (fun _ => rfl) t d).trans rfl

/-- and the weights'. -/
theorem before_1 (c : Dev nD) (t) (d) : (dats m 0 c).before (1 : Fin 3) t d = iblk m c 1 t :=
  (Dat.before_in_eq_fetched (dats m 0 c) (1 : Fin 3) rfl (fun _ => rfl) (fun _ _ _ => rfl) (fun _ => rfl) t d).trans rfl

/-- The result's block is written back after the last point only. -/
theorem flush_2 (t : Fin (cfgT m).N) (h : t.val ≠ 15) : ((cfgT m).win (2 : Fin 3)).flush t = false := by
  rw [← Bool.not_eq_true, Pipeline.Window.flush_out _ rfl]
  rintro (h' | ⟨_, h'⟩)
  · exact h (by have : t.val + 1 = grid0.N := h'; rw [N_0] at this; omega)
  · exact h' rfl

end Cert.KernelIdeal.Seg
end
-- ==== Proof.Points.lean ====
/-
  Which of the body's branches a grid point takes.
-/
module

public import proofs.«01_k».proof.Proof.State

@[expose] public section

noncomputable section

namespace Cert.KernelIdeal.Seg

open Cert.KernelIdeal Cert.KernelIdeal.Gen
open Idealize.ShloMosaic Idealize.ShloMosaic.TcCoe Idealize.ShloMosaic.Tactic

variable {F : FTy → Type} [FloatOps F]

/-- The grid's points are its 16 coordinates. -/
theorem coords_of (P : grid0.Coords → Prop) (h : ∀ x : Fin 16, P fun a => ⟨x.val, by have e : a = 0 := Subsingleton.elim _ _; subst e; exact x.isLt⟩) (i : grid0.Coords) : P i := by
  have e : i = fun a => ⟨(i 0).val, by have e : a = 0 := Subsingleton.elim _ _; subst e; exact (i 0).isLt⟩ := by
    funext a
    have e : a = 0 := Subsingleton.elim _ _
    subst e; rfl
  rw [e]
  exact h ⟨(i 0).val, (i 0).isLt⟩

/-- The condition of the first point. -/
theorem first_iff (i : grid0.Coords) :
    (Scalar.cmpi .ne (Scalar.extui (Scalar.cmpi .eq (BitVec.ofNat 32 (i 0).val) 0#32) : BitVec 32) 0#32 = 1#1) ↔ (i 0).val = 0 :=
  by revert i; refine coords_of _ ?_; decide
/-- The condition of the even points. -/
theorem cond2_iff (i : grid0.Coords) : k0_cond2 i = 1#1 ↔ (i 0).val % 2 = 0 := by revert i; refine coords_of _ ?_; decide
/-- The condition of the points after the first. -/
theorem cond3_iff (i : grid0.Coords) : k0_cond3 i = 1#1 ↔ (i 0).val ≠ 0 := by revert i; refine coords_of _ ?_; decide
/-- The condition of the odd points. -/
theorem cond6_iff (i : grid0.Coords) : k0_cond6 i = 1#1 ↔ (i 0).val % 2 = 1 := by revert i; refine coords_of _ ?_; decide
/-- The condition of the last point. -/
theorem cond9_iff (i : grid0.Coords) : k0_cond9 i = 1#1 ↔ (i 0).val = 15 := by revert i; refine coords_of _ ?_; decide
/-- The row from which a point reduces is the first of the tile before it. -/
theorem prevRow_eq (i : grid0.Coords) : (i 0).val ≠ 0 → prevRow i = row0 ((i 0).val - 1) := by revert i; refine coords_of _ ?_; decide

end Cert.KernelIdeal.Seg
end
-- ==== Proof.Steps.lean ====
/-
  One grid point, from what is kept before it to what is kept after it.
-/
module

public import proofs.«01_k».proof.Proof.Points

@[expose] public section

noncomputable section

namespace Cert.KernelIdeal.Seg

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- Before the first and after the last point the copies are at rest; -/
theorem kept_end (c : Dev nD) (n : ℕ) (h : n = 0 ∨ n = 16) : kept m c n = atRest m c := if_pos h
/-- in between they are under way. -/
theorem kept_mid (c : Dev nD) (n : ℕ) (h : ¬ (n = 0 ∨ n = 16)) : kept m c n = between m c n := if_neg h

/-- What a point starts from, and what it ends with: the three windows' buffers beside what is kept. -/
def before (c : Dev nD) (n : ℕ) (aX : Memref sig .tc .vmem S2048x64 .f32) (aW : Memref sig .tc .vmem S64x512 .f32)
    (aO : Memref sig .tc .vmem S16x1024 .f32) (X : S2048x64.Idx → Elt F .f32) (Y : S64x512.Idx → Elt F .f32)
    (Z : S16x1024.Idx → Elt F .f32) (W : Waits sig Unit) : sProp 𝕄 :=
  iprop(kept m c n ∗ owes (c : Thread nD τ) 0 W ∗ owns (c : Thread nD τ) aX fullShare X ∗ owns (c : Thread nD τ) aW fullShare Y
    ∗ owns (c : Thread nD τ) aO fullShare Z)

/-- What a point leaves of the buffers it was handed. -/
def after (c : Dev nD) (n : ℕ) (aX : Memref sig .tc .vmem S2048x64 .f32) (aW : Memref sig .tc .vmem S64x512 .f32)
    (aO : Memref sig .tc .vmem S16x1024 .f32) (X : S2048x64.Idx → Elt F .f32) (Y : S64x512.Idx → Elt F .f32)
    (Z : S16x1024.Idx → Elt F .f32) : sProp 𝕄 :=
  iprop(kept m c (n + 1) ∗ (∃ W, owes (c : Thread nD τ) 0 W) ∗ owns (c : Thread nD τ) aX fullShare X ∗ owns (c : Thread nD τ) aW fullShare Y
    ∗ owns (c : Thread nD τ) aO fullShare Z)

section
variable (c : Dev nD) (i : grid0.Coords) (aX : Memref sig .tc .vmem S2048x64 .f32) (hX : aX.IsWhole)
    (aW : Memref sig .tc .vmem S64x512 .f32) (hW : aW.IsWhole) (aO : Memref sig .tc .vmem S16x1024 .f32) (hO : aO.IsWhole)
    (X : S2048x64.Idx → Elt F .f32) (Y : S64x512.Idx → Elt F .f32) (Z : S16x1024.Idx → Elt F .f32) (W : Waits sig Unit)
    (hP : k0_pay2 X Y = prod m c (i 0).val)

include hP

/-- The first point. -/
theorem step_first (h0 : (i 0).val = 0) :
    before m c (i 0).val aX aW aO X Y Z W
      ⊢ wp frame (wpE (defs₀ (F := F)) Variants.none c none) Set.univ (bodyG i aX hX aW hW aO hO) fun _ => after m c (i 0).val aX aW aO X Y Z := by
  have hb : (i 0).val ≤ 15 := Nat.le_of_lt_succ (i 0).isLt
  unfold before after
  rw [kept_end m c _ (Or.inl h0), kept_mid m c _ (by omega), atRest_eq]
  unfold between owns
  iintro ⟨⟨⟨⟨⟨%p, HP⟩, ⟨%ha, HA⟩, ⟨%hb, HB⟩, ⟨%v2, HV2⟩, ⟨%v1, HV1⟩, ⟨%v3, HV3⟩⟩, Hr, ⟨HS2, HS1, HS3⟩, ⟨HW2, HB1, HB2⟩⟩, HT⟩, Hw, ⟨%x, %hx, HX⟩, ⟨%w, %hw, HW⟩, HO⟩
  iapply (first c i aX hX aW hW aO hO ((first_iff i).mpr h0) ((cond2_iff i).mpr (by omega)) (fun h => (cond3_iff i).mp h h0)
    (fun h => by have := (cond6_iff i).mp h; omega) (fun h => by have := (cond9_iff i).mp h; omega)
    x w p ha (V0r m c main_arg4) (V0r m c main_call0_v8) (V0r m c main_call0_v9) v2 v1 v3)
  isplitl [HX]; · iexact HX
  isplitl [HW]; · iexact HW
  isplitl [HP]; · iexact HP
  isplitl [HA]; · iexact HA
  isplitl [HW2]; · iexact HW2
  isplitl [HB1]; · iexact HB1
  isplitl [HB2]; · iexact HB2
  isplitl [HV2]; · iexact HV2
  isplitl [HV1]; · iexact HV1
  isplitl [HV3]; · iexact HV3
  isplitl [HS2]; · iexact HS2
  isplitl [HS1]; · iexact HS1
  isplitl [HS3]; · iexact HS3
  iintro ⟨HX, HW, HP, HA, HS2, HS1, HS3⟩
  isplitl [HT HP HA HB HS2 HS1 HS3 Hr]
  · iexists _; iexists _
    isplitr
    pick_goal 2
    · isplitl [HT]; · iexact HT
      isplitl [HP]
      · rw [show pooled m c ((i 0).val + 1 - 1) = k0_pay1 from by rw [h0]; rfl]
        iexact HP
      isplitl [HA]; · iexact HA
      isplitl [HB]; · iexact HB
      isplitl [HS2]; · iexact HS2
      isplitl [HS1]; · iexact HS1
      isplitl [HS3]; · iexact HS3
      iexact Hr
    ipureintro
    exact ⟨fun _ => by rw [hx, hw, hP]; rfl, fun h => by omega⟩
  isplitl [Hw]; · iexists W; iexact Hw
  isplitl [HX]
  · iexists x; isplitr
    · ipureintro; exact hx
    iexact HX
  isplitl [HW]
  · iexists w; isplitr
    · ipureintro; exact hw
    iexact HW
  iexact HO

variable (hS : ∀ n < 16, Small (wds (tbl m)) (row0 n))
include hS

/-- A later even point. -/
theorem step_even (h0 : (i 0).val ≠ 0) (h2 : (i 0).val % 2 = 0) :
    before m c (i 0).val aX aW aO X Y Z W
      ⊢ wp frame (wpE (defs₀ (F := F)) Variants.none c none) Set.univ (bodyG i aX hX aW hW aO hO) fun _ => after m c (i 0).val aX aW aO X Y Z := by
  have hb : (i 0).val ≤ 15 := Nat.le_of_lt_succ (i 0).isLt
  unfold before after
  rw [kept_mid m c _ (by omega), kept_mid m c _ (by omega)]
  unfold between owns
  iintro ⟨⟨%ha, %hb, %hh, HT, HP, HA, HB, HS⟩, Hw, ⟨%x, %hx, HX⟩, ⟨%w, %hw, HW⟩, HO⟩
  obtain ⟨-, hh⟩ := hh
  iapply (even c i aX hX aW hW aO hO (fun h => h0 ((first_iff i).mp h)) ((cond2_iff i).mpr h2) ((cond3_iff i).mpr h0)
    (fun h => by have := (cond6_iff i).mp h; omega) (fun h => by have := (cond9_iff i).mp h; omega)
    (tbl m) x w (pooled m c ((i 0).val - 1)) ha hb (by rw [prevRow_eq i h0]; exact hS _ (by omega)))
  isplitl [HT]; · iexact HT
  isplitl [HX]; · iexact HX
  isplitl [HW]; · iexact HW
  isplitl [HP]; · iexact HP
  isplitl [HA]; · iexact HA
  isplitl [HB]; · iexact HB
  iintro ⟨HT, HX, HW, HP, HA, HB⟩
  isplitl [HT HP HA HB HS]
  · iexists _; iexists _
    isplitr
    pick_goal 2
    · isplitl [HT]; · iexact HT
      isplitl [HP]
      · rw [show pooled m c ((i 0).val + 1 - 1) = reduceTile (tbl m) (prevRow i) hb (pooled m c ((i 0).val - 1)) from by
          obtain ⟨k, hk⟩ : ∃ k, (i 0).val = k + 1 := ⟨(i 0).val - 1, by omega⟩
          rw [prevRow_eq i h0, hh h2, hk]; rfl]
        iexact HP
      isplitl [HA]; · iexact HA
      isplitl [HB]; · iexact HB
      iexact HS
    ipureintro
    exact ⟨fun _ => by rw [hx, hw, hP]; rfl, fun h => by omega⟩
  isplitl [Hw]; · iexists W; iexact Hw
  isplitl [HX]
  · iexists x; isplitr
    · ipureintro; exact hx
    iexact HX
  isplitl [HW]
  · iexists w; isplitr
    · ipureintro; exact hw
    iexact HW
  iexact HO

/-- An odd point before the last. -/
theorem step_odd (h15 : (i 0).val ≠ 15) (h2 : (i 0).val % 2 = 1) :
    before m c (i 0).val aX aW aO X Y Z W
      ⊢ wp frame (wpE (defs₀ (F := F)) Variants.none c none) Set.univ (bodyG i aX hX aW hW aO hO) fun _ => after m c (i 0).val aX aW aO X Y Z := by
  have hb : (i 0).val ≤ 15 := Nat.le_of_lt_succ (i 0).isLt
  have h0 : (i 0).val ≠ 0 := by omega
  unfold before after
  rw [kept_mid m c _ (by omega), kept_mid m c _ (by omega)]
  unfold between owns
  iintro ⟨⟨%ha, %hb, %hh, HT, HP, HA, HB, HS⟩, Hw, ⟨%x, %hx, HX⟩, ⟨%w, %hw, HW⟩, HO⟩
  obtain ⟨hh, -⟩ := hh
  iapply (odd c i aX hX aW hW aO hO (fun h => h0 ((first_iff i).mp h)) (fun h => by have := (cond2_iff i).mp h; omega) ((cond6_iff i).mpr h2)
    (fun h => h15 ((cond9_iff i).mp h))
    (tbl m) x w (pooled m c ((i 0).val - 1)) ha hb (by rw [prevRow_eq i h0]; exact hS _ (by omega)))
  isplitl [HT]; · iexact HT
  isplitl [HX]; · iexact HX
  isplitl [HW]; · iexact HW
  isplitl [HP]; · iexact HP
  isplitl [HA]; · iexact HA
  isplitl [HB]; · iexact HB
  iintro ⟨HT, HX, HW, HP, HA, HB⟩
  isplitl [HT HP HA HB HS]
  · iexists _; iexists _
    isplitr
    pick_goal 2
    · isplitl [HT]; · iexact HT
      isplitl [HP]
      · rw [show pooled m c ((i 0).val + 1 - 1) = reduceTile (tbl m) (prevRow i) ha (pooled m c ((i 0).val - 1)) from by
          obtain ⟨k, hk⟩ : ∃ k, (i 0).val = k + 1 := ⟨(i 0).val - 1, by omega⟩
          rw [prevRow_eq i h0, hh h2, hk]; rfl]
        iexact HP
      isplitl [HA]; · iexact HA
      isplitl [HB]; · iexact HB
      iexact HS
    ipureintro
    exact ⟨fun h => by omega, fun _ => by rw [hx, hw]; exact hP⟩
  isplitl [Hw]; · iexists W; iexact Hw
  isplitl [HX]
  · iexists x; isplitr
    · ipureintro; exact hx
    iexact HX
  isplitl [HW]
  · iexists w; isplitr
    · ipureintro; exact hw
    iexact HW
  iexact HO

/-- The last point. -/
theorem step_last (h15 : (i 0).val = 15) :
    before m c (i 0).val aX aW aO X Y Z W
      ⊢ wp frame (wpE (defs₀ (F := F)) Variants.none c none) Set.univ (bodyG i aX hX aW hW aO hO)
        fun _ => after m c (i 0).val aX aW aO X Y (result m c) := by
  have h0 : (i 0).val ≠ 0 := by omega
  unfold before after
  rw [kept_mid m c _ (by omega), kept_end m c _ (Or.inr (by omega)), atRest_eq]
  unfold between owns
  iintro ⟨⟨%ha, %hb, %hh, HT, HP, HA, HB, HS2, HS1, HS3, Hr⟩, Hw, ⟨%x, %hx, HX⟩, ⟨%w, %hw, HW⟩, ⟨%o, -, HO⟩⟩
  obtain ⟨hh, -⟩ := hh
  iapply (last c i aX hX aW hW aO hO (fun h => h0 ((first_iff i).mp h)) (fun h => by have := (cond2_iff i).mp h; omega) ((cond6_iff i).mpr (by omega))
    ((cond9_iff i).mpr h15)
    (tbl m) x w o (pooled m c ((i 0).val - 1)) ha hb (V0r m c main_arg4) (V0r m c main_call0_v8) (V0r m c main_call0_v9) W
    (by rw [prevRow_eq i h0]; exact hS _ (by omega)) (hS 15 (by omega)))
  isplitl [HT]; · iexact HT
  isplitl [HX]; · iexact HX
  isplitl [HW]; · iexact HW
  isplitl [HO]; · iexact HO
  isplitl [HP]; · iexact HP
  isplitl [HA]; · iexact HA
  isplitl [HB]; · iexact HB
  isplitl [HS2]; · iexact HS2
  isplitl [HS1]; · iexact HS1
  isplitl [HS3]; · iexact HS3
  isplitl [Hw]; · iexact Hw
  iintro ⟨HT, HX, HW, ⟨%g, %hg, HO⟩, HP, HA, HB, HV2, HV1, HV3, HW2, HB1, HB2, HS2, HS1, HS3, Hw⟩
  isplitl [HT HP HA HB HV2 HV1 HV3 HW2 HB1 HB2 HS2 HS1 HS3 Hr]
  · isplitr [HT]
    · isplitl [HP HA HB HV2 HV1 HV3]
      · isplitl [HP]; · iexact HP
        isplitl [HA]; · iexists _; iexact HA
        isplitl [HB]; · iexact HB
        isplitl [HV2]; · iexists _; iexact HV2
        isplitl [HV1]; · iexists _; iexact HV1
        iexists _; iexact HV3
      isplitl [Hr]; · iexact Hr
      isplitl [HS2 HS1 HS3]
      · isplitl [HS2]; · iexact HS2
        isplitl [HS1]; · iexact HS1
        iexact HS3
      isplitl [HW2]; · iexact HW2
      isplitl [HB1]; · iexact HB1
      iexact HB2
    iexact HT
  isplitl [Hw]; · iexact Hw
  isplitl [HX]
  · iexists x; isplitr
    · ipureintro; exact hx
    iexact HX
  isplitl [HW]
  · iexists w; isplitr
    · ipureintro; exact hw
    iexact HW
  iexists g; isplitr
  · ipureintro
    rw [hg, hx, hw, prevRow_eq i h0, hh (by omega), show k0_pay16 X Y = prod m c 15 from h15 ▸ hP, h15]
    rfl
  iexact HO

end

end Cert.KernelIdeal.Seg
end
-- ==== Proof.Obligation.lean ====
/-
  The kernel body meets the launch's obligation at every grid point, and @main runs to the launch's arrays.
-/
module

public import proofs.«01_k».proof.Proof.Steps

@[expose] public section

noncomputable section

namespace Cert.KernelIdeal.Seg

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- The body the launch runs at a point is the kernel on that point's staging buffers. -/
theorem prog_eq (t : Fin (cfgT m).N) : (defs₀ (F := F)) .tc (cfgT m).body ((cfgT m).bodyArgs t ((cfgT m).slots t))
    = bodyG (grid0.coords t) (((cfgT m).win 0).stage ((cfgT m).slots t 0)) (hstage0_0 _) (((cfgT m).win 1).stage ((cfgT m).slots t 1)) (hstage0_1 _)
        (((cfgT m).win 2).stage ((cfgT m).slots t 2)) (hstage0_2 _) := rfl

/-- The invariant before a grid point, -/
theorem phi_pre (c : Dev nD) (t : Fin (cfgT m).N) : (dats m 0 c).Φ t.castSucc = kept m c t.val := by dsimp only [dats]; rfl
/-- and after it. -/
theorem phi_post (c : Dev nD) (t : Fin (cfgT m).N) : (dats m 0 c).Φ t.succ = kept m c (t.val + 1) := by dsimp only [dats]; rfl

/-- A grid point's coordinate is its number. -/
theorem coord_val (t : Fin (cfgT m).N) : ((grid0.coords t) 0).val = t.val := by
  have h : ∀ t : Fin grid0.N, ((grid0.coords t) 0).val = t.val := by decide
  exact h t

/-- The result window is idle where the last point's condition fails: -/
theorem idle_2 (i : grid0.Coords) : (cfgT m).idle (2 : Fin 3) i = !(k0_cond9 i == 1#1) := rfl

/-- at every point but the last, -/
theorem idle_2_true (t : Fin (cfgT m).N) (h : t.val ≠ 15) : (cfgT m).idle (2 : Fin 3) ((cfgT m).grid.coords t) = true := by
  refine (idle_2 m _).trans ?_
  rw [Bool.not_eq_true', beq_eq_false_iff_ne]
  intro h'
  have h1 := (cond9_iff _).mp h'
  have h2 := coord_val m t
  exact h (h2.symm.trans h1)

/-- and not at the last. -/
theorem idle_2_false (t : Fin (cfgT m).N) (h : t.val = 15) : (cfgT m).idle (2 : Fin 3) ((cfgT m).grid.coords t) = false := by
  refine (idle_2 m _).trans ?_
  rw [Bool.not_eq_false', beq_iff_eq]
  exact (cond9_iff _).mpr ((coord_val m t).trans h)

/-- What the body leaves in the rows' block, -/
theorem leaves_0 (c : Dev nD) (t : Fin (cfgT m).N) : ((dats m 0 c).leavesExact (0 : Fin 3) t : sProp 𝕄)
    = owns (c : Thread nD τ) (((cfgT m).win 0).stage ((cfgT m).slots t 0)) fullShare (iblk m c 0 t) := by
  rw [← after_0 m c t]; rfl

/-- in the weights' block, -/
theorem leaves_1 (c : Dev nD) (t : Fin (cfgT m).N) : ((dats m 0 c).leavesExact (1 : Fin 3) t : sProp 𝕄)
    = owns (c : Thread nD τ) (((cfgT m).win 1).stage ((cfgT m).slots t 1)) fullShare (iblk m c 1 t) := by
  rw [← after_1 m c t]; rfl

/-- in the result's block before the last point, -/
theorem leaves_2_idle (c : Dev nD) (t : Fin (cfgT m).N) (h : t.val ≠ 15) : ((dats m 0 c).leavesExact (2 : Fin 3) t : sProp 𝕄)
    = iprop(∃ d, owns (c : Thread nD τ) (((cfgT m).win 2).stage ((cfgT m).slots t 2)) fullShare ((dats m 0 c).before (2 : Fin 3) t d)) := by
  unfold Dat.leavesExact
  rw [idle_2_true m t h, flush_2 m t h]; rfl

/-- and at the last point. -/
theorem leaves_2_last (c : Dev nD) (t : Fin (cfgT m).N) (h : t.val = 15) : ((dats m 0 c).leavesExact (2 : Fin 3) t : sProp 𝕄)
    = owns (c : Thread nD τ) (((cfgT m).win 2).stage ((cfgT m).slots t 2)) fullShare (result m c) := by
  unfold Dat.leavesExact
  rw [idle_2_false m t h, ← after_2 m c t]; rfl

variable (hS : ∀ n < 16, Small (wds (tbl m)) (row0 n))
include hS

set_option backward.isDefEq.respectTransparency.types false in
/-- The body's run at every grid point. -/
theorem sound (c : Dev nD) (t : Fin (cfgT m).N) :
    iprop((dats m 0 c).Φ t.castSucc ∗ (dats m 0 c).owesAt () t.castSucc
      ∗ (∃ d, owns (c : Thread nD τ) (((cfgT m).win 0).stage ((cfgT m).slots t 0)) fullShare ((dats m 0 c).before (0 : Fin 3) t d))
      ∗ (∃ d, owns (c : Thread nD τ) (((cfgT m).win 1).stage ((cfgT m).slots t 1)) fullShare ((dats m 0 c).before (1 : Fin 3) t d))
      ∗ (∃ d, owns (c : Thread nD τ) (((cfgT m).win 2).stage ((cfgT m).slots t 2)) fullShare ((dats m 0 c).before (2 : Fin 3) t d)))
    ⊢ wp frame (wpE (defs₀ (F := F)) Variants.none c none) Set.univ
        (bodyG (grid0.coords t) (((cfgT m).win 0).stage ((cfgT m).slots t 0)) (hstage0_0 _) (((cfgT m).win 1).stage ((cfgT m).slots t 1)) (hstage0_1 _)
          (((cfgT m).win 2).stage ((cfgT m).slots t 2)) (hstage0_2 _)) fun _ =>
      iprop((dats m 0 c).Φ t.succ ∗ (dats m 0 c).owesAt () t.succ
        ∗ (dats m 0 c).leavesExact (0 : Fin 3) t ∗ (dats m 0 c).leavesExact (1 : Fin 3) t ∗ (dats m 0 c).leavesExact (2 : Fin 3) t) := by
  have hc := coord_val m t
  have hp : k0_pay2 (iblk m c 0 t) (iblk m c 1 t) = prod m c ((grid0.coords t) 0).val := by
    unfold prod; rw [hc, pt_val]
  simp only [before_0, before_1, leaves_0, leaves_1, phi_pre, phi_post, ← hc]
  unfold Dat.owesAt Pipeline.owesWithin
  rw [show (dats m 0 c).owed t.castSucc = 0 from rfl, show (dats m 0 c).owed t.succ = 0 from rfl]
  rcases Classical.em (t.val = 15) with h15 | h15
  · rw [leaves_2_last m c t h15]
    iintro ⟨HK, ⟨%W, -, HW⟩, ⟨%d0, H0⟩, ⟨%d1, H1⟩, ⟨%d2, H2⟩⟩
    iapply ((step_last m c (grid0.coords t) _ (hstage0_0 _) _ (hstage0_1 _) _ (hstage0_2 _) (iblk m c 0 t) (iblk m c 1 t)
      ((dats m 0 c).before (2 : Fin 3) t d2) W hp hS (hc.trans h15)).trans (wp_mono _ _ _ fun _ => ?_))
    pick_goal 2
    · unfold before
      isplitl [HK]; · iexact HK
      isplitl [HW]; · iexact HW
      isplitl [H0]; · iexact H0
      isplitl [H1]; · iexact H1
      iexact H2
    unfold after
    iintro ⟨HK, ⟨%W', HW⟩, H0, H1, H2⟩
    isplitl [HK]; · iexact HK
    isplitl [HW]
    · iexists W'; isplitr
      · ipureintro; exact fun _ _ => Or.inl trivial
      iexact HW
    isplitl [H0]; · iexact H0
    isplitl [H1]; · iexact H1
    iexact H2
  · rw [leaves_2_idle m c t h15]
    iintro ⟨HK, ⟨%W, -, HW⟩, ⟨%d0, H0⟩, ⟨%d1, H1⟩, ⟨%d2, H2⟩⟩
    have hs : before m c ((grid0.coords t) 0).val (((cfgT m).win 0).stage ((cfgT m).slots t 0)) (((cfgT m).win 1).stage ((cfgT m).slots t 1))
          (((cfgT m).win 2).stage ((cfgT m).slots t 2)) (iblk m c 0 t) (iblk m c 1 t) ((dats m 0 c).before (2 : Fin 3) t d2) W
        ⊢ wp frame (wpE (defs₀ (F := F)) Variants.none c none) Set.univ
          (bodyG (grid0.coords t) (((cfgT m).win 0).stage ((cfgT m).slots t 0)) (hstage0_0 _) (((cfgT m).win 1).stage ((cfgT m).slots t 1)) (hstage0_1 _)
            (((cfgT m).win 2).stage ((cfgT m).slots t 2)) (hstage0_2 _)) fun _ =>
        after m c ((grid0.coords t) 0).val (((cfgT m).win 0).stage ((cfgT m).slots t 0)) (((cfgT m).win 1).stage ((cfgT m).slots t 1))
          (((cfgT m).win 2).stage ((cfgT m).slots t 2)) (iblk m c 0 t) (iblk m c 1 t) ((dats m 0 c).before (2 : Fin 3) t d2) := by
      rcases Classical.em (((grid0.coords t) 0).val = 0) with h0 | h0
      · exact step_first m c _ _ _ _ _ _ _ _ _ _ _ hp h0
      · rcases Nat.mod_two_eq_zero_or_one ((grid0.coords t) 0).val with h2 | h2
        · exact step_even m c _ _ _ _ _ _ _ _ _ _ _ hp hS h0 h2
        · exact step_odd m c _ _ _ _ _ _ _ _ _ _ _ hp hS (fun h => h15 (hc.symm.trans h)) h2
    iapply (hs.trans (wp_mono _ _ _ fun _ => ?_))
    pick_goal 2
    · unfold before
      isplitl [HK]; · iexact HK
      isplitl [HW]; · iexact HW
      isplitl [H0]; · iexact H0
      isplitl [H1]; · iexact H1
      iexact H2
    unfold after
    iintro ⟨HK, ⟨%W', HW⟩, H0, H1, H2⟩
    isplitl [HK]; · iexact HK
    isplitl [HW]
    · iexists W'; isplitr
      · ipureintro; exact fun _ _ => Or.inl trivial
      iexact HW
    isplitl [H0]; · iexact H0
    isplitl [H1]; · iexact H1
    iexists d2; iexact H2

set_option backward.isDefEq.respectTransparency.types false in
/-- The body does what the pipeline asks of it. -/
theorem body_obligation (c : Dev nD) : BodyObligation (dats m 0 c) (defs₀ (F := F)) Variants.none () Set.univ := fun t => by
  rw [bigSep_W0, bigSep_W0, prog_eq m t]
  exact sound m hS c t

end Cert.KernelIdeal.Seg
end
-- ==== Proof.Run.lean ====
/-
  @main runs: the host's table, the kernel's launch, the result's reshape.
-/
module

public import proofs.«01_k».proof.Proof.Obligation

@[expose] public section

noncomputable section

namespace Cert.KernelIdeal.Seg

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What an unscoped buffer holds in the end. -/
abbrev final (c : Dev nD) (b : Ref sig .tc) : Buf (Elt F) ((c : Thread nD τ).loc b) :=
  Pipeline.afterTail pcfgs (adm m) (dats m) (0 : Fin 1) (V0 m) [hostOps1] c b

/-- The reshape after the kernel, alone. -/
abbrev tailOp : HloOp τ sig (Elt F) :=
  StableHlo.TRef.reshape (.of main_call0_v10 : StableHlo.TRef sig ⟨S16x1024, .f32⟩) (.of main_v0 : StableHlo.TRef sig ⟨S16x256x4, .f32⟩) (rfl : (.f32 : EltTy) = .f32) shapeCasts_S16x1024_S16x256x4

/-- The reshape after the kernel names the kernel's result and @main's, -/
theorem tail_bufs : (tailOp (F := F)).bufs = {Proc.devRef .tc main_call0_v10, Proc.devRef .tc main_v0} := rfl
/-- and writes @main's. -/
theorem tail_writes : (tailOp (F := F)).writes = {Proc.devRef .tc main_v0} := rfl

/-- It names only buffers that the kernel's region hands over; -/
theorem tail_sub : ∀ ops ∈ [hostOps1 (F := F)], ∀ op ∈ ops, op.bufs ⊆ Pipeline.tailRefsBut (τ := τ) sig pre0 spec0 H0 := by
  intro ops ho op h
  obtain rfl := List.mem_singleton.mp ho
  obtain rfl := List.mem_singleton.mp h
  refine Pipeline.sub_tailRefsBut pre0 spec0 H0 _ hostOps1_sub ?_ ?_
  · intro k; rw [tail_bufs]; revert k; decide
  · rw [tail_bufs]; decide

/-- it takes no fresh buffer, -/
theorem tail_fresh : ∀ ops ∈ [hostOps1 (F := F)], ∀ op ∈ ops, op.fresh = ∅ := by
  intro ops ho op h
  obtain rfl := List.mem_singleton.mp ho
  obtain rfl := List.mem_singleton.mp h
  rfl

/-- and writes no window's array. -/
theorem tail_keep : ∀ ops ∈ [hostOps1 (F := F)], ∀ op ∈ ops, ∀ w, Proc.devRef .tc (Pipeline.arrRef spec0 w) ∉ op.writes := by
  intro ops ho op h
  obtain rfl := List.mem_singleton.mp ho
  obtain rfl := List.mem_singleton.mp h
  rw [tail_writes]; decide

/-- The operations before the kernel take no fresh buffer. -/
theorem head_fresh : [hostOps0 (F := F)].Forall fun ops => ops.Forall fun op => op.fresh = ∅ := by
  simp only [List.Forall]
  exact ⟨rfl, rfl, rfl, rfl, rfl, rfl, rfl, rfl, rfl, rfl, rfl⟩

/-- The table the launch takes is what its buffer holds, -/
theorem table_ref (V : Valuation τ sig (Elt F)) (k : Fin 1) : V (Proc.devRef .tc (pre0.ref k)) = ((admOf fun b => V (Proc.devRef .tc b)) 0).1 k := rfl

/-- on every core. -/
theorem table_of (c : Dev nD) (k : Fin 1) : V0 m c (Proc.devRef .tc (pre0.ref k)) = (adm m 0).1 k := by
  obtain rfl : c = 0 := Subsingleton.elim _ _
  exact table_ref (V0 m 0) k

/-- @main is the operations before the kernel, the kernel, and the reshape after it. -/
theorem main_run : Pipeline.HMainPK (Ix := Unit) (Name := ℕ) (U := Pipeline.UD sig nD τ) (Lvl := ℕ) pcfgs (0 : Fin 1) defs₀ Variants.none m (main (F := F))
      (fun c b => V0 m c (Proc.devRef .tc b)) (fun _ => Pipeline.chain ([hostOps1].map StableHlo.seq)) := by
  have h := Pipeline.hmainP_around (Ix := Unit) (Name := ℕ) (U := Pipeline.UD sig nD τ) (Lvl := ℕ) pcfgs (0 : Fin 1) defs₀ Variants.none m (main (F := F))
    [hostOps0] [hostOps1] (by simp only [List.Forall]; exact hostOps0_sub) head_fresh (fun c => main_chain c)
  rw [show [hostOps0 (F := F)].flatten = hostOps0 from rfl] at h
  unfold V0
  exact h

/-- The invariant before the first point, -/
theorem phi_first (c : Dev nD) : (dats m 0 c).Φ 0 = atRest m c := by dsimp only [dats]; exact kept_end m c 0 (Or.inl rfl)
/-- and after the last. -/
theorem phi_last (c : Dev nD) : (dats m 0 c).Φ (Fin.last _) = atRest m c := by
  dsimp only [dats]; exact kept_end m c _ (Or.inr N_0)

variable (hS : ∀ n < 16, Small (wds (tbl m)) (row0 n))
include hS

set_option backward.isDefEq.respectTransparency.types false in
/-- Every execution ends, with the launch's arrays, the other buffers as the reshape leaves them, no semaphore up. -/
theorem run_main : θ_run defs (onTc (τ := τ) (main (F := F))) (s₀ m ρ)
    fun r => Pipeline.FramePost (Pipeline.pin pcfgs (adm m)) (dats m) (0 : Fin 1) (final m) r ∧ r.2.sem = fun _ => 0 :=
  Pipeline.θ_run_frameP_dma_around pcfgs (adm m) (dats m) (0 : Fin 1) launch0 osem0 defs₀ Variants.none ownSemFacts0 H0 H0_sub m ρ main
    (hbody := fun c => (body_obligation m hS c).loose) (hshare := fun c => (dats m 0 c).share_full fun _ => rfl) (howed := fun _ _ => rfl)
    (V₀ := V0 m) (opss := [hostOps1]) (hsub := tail_sub) (hfresh := tail_fresh) (hkeep := tail_keep) (hmain := main_run m)
    (hA := A_eq m) (hpf := table_of m)
    (hin := fun c => by rw [phi_first]; exact .rfl)
    (hout := fun c => by rw [phi_last]; unfold atRest; iintro ⟨H, -⟩; iexact H)
    (Q' := _) (hQ' := fun _ h => h)

end Cert.KernelIdeal.Seg
end
-- ==== Proof.Table.lean ====
/-
  The table of segment offsets: what the host computes, and what the kernel reads from it.
-/
module

public import proofs.«01_k».proof.Proof.Run
public import Idealize.ShloMosaic.Lib.Pointwise

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.Sem

variable {F : FTy → Type} [FloatOps F]

/-- The host's table: entry `j` counts the rows whose segment is below `j`. -/
def tableOf (idx : IVec S32768 32) : IVec S17 32 :=
  Host.reduce IntOp.addi (extui 32 (cmpi .sgt (broadcastInDim S17x32768 ![0, 1] bcast_S17x1_S17x32768_0_1 (broadcastInDim S17x1 ![0] bcast_S17_S17x1_0 (iotaInDim S17 32 0)))
    (broadcastInDim S17x32768 ![0, 1] bcast_S1x32768_S17x32768_0_1 (broadcastInDim S1x32768 ![1] bcast_S32768_S1x32768_1 idx))) natLt_1_32)
    (constantI S_ 32 0#32) reducesTo_S17x32768_S17_d1 h_S_

/-- The host's operations before the kernel build the table. -/
theorem after_table (V : Valuation τ sig (Elt F)) : StableHlo.after (hostOps0 (F := F)) V (Proc.devRef .tc main_call0_v7) = tableOf (V (Proc.devRef .tc main_arg1)) := by
  simp only [hostOps0, StableHlo.TRef.binary, StableHlo.TRef.nullary, StableHlo.TRef.reshape, StableHlo.TRef.unary, StableHlo.TRef.toBuf, StableHlo.TRef.ofBuf, cast_eq]
  after_results <;> rfl

/-- How many rows name a segment below `k`. -/
def cnt (idx : IVec S32768 32) (k : ℕ) : ℕ := ∑ r : Fin 32768, if (idx (ix1 r)).toInt < k then 1 else 0

/-- A count of rows is at most the number of rows. -/
theorem cnt_le (idx : IVec S32768 32) (k : ℕ) : cnt idx k ≤ 32768 := by
  unfold cnt
  refine (Finset.sum_le_card_nsmul _ _ 1 fun r _ => ?_).trans (by simp)
  split <;> omega

/-- The counts ascend. -/
theorem cnt_mono (idx : IVec S32768 32) {k l : ℕ} (h : k ≤ l) : cnt idx k ≤ cnt idx l := by
  unfold cnt
  refine Finset.sum_le_sum fun r _ => ?_
  by_cases h1 : (idx (ix1 r)).toInt < k
  · rw [if_pos h1, if_pos (by omega)]
  · rw [if_neg h1]; exact Nat.zero_le _

/-- Adding words is adding their numbers. -/
theorem fold_addi {ι : Type} (s : Finset ι) (f : ι → ℕ) :
    s.fold IntOp.addi 0#32 (fun x => BitVec.ofNat 32 (f x)) = BitVec.ofNat 32 (∑ x ∈ s, f x) := by
  classical
  induction s using Finset.induction_on with
  | empty => rfl
  | insert a s ha ih =>
    rw [Finset.fold_insert ha, ih, Finset.sum_insert ha, BitVec.ofNat_add]; rfl

/-- A comparison's bit, widened, is 1 or 0. -/
theorem setWidth_sgt (j : ℕ) (hj : j < 17) (x : BitVec 32) :
    BitVec.setWidth 32 (IntOp.cmpi CmpIPredicate.sgt (BitVec.ofNat 32 j) x) = BitVec.ofNat 32 (if x.toInt < j then 1 else 0) := by
  have e : IntOp.cmpi CmpIPredicate.sgt (BitVec.ofNat 32 j) x = BitVec.ofBool (decide (x.toInt < (BitVec.ofNat 32 j).toInt)) := rfl
  have hn : (BitVec.ofNat 32 j).toInt = j := by
    rw [BitVec.toInt_eq_toNat_of_lt, BitVec.toNat_ofNat] <;> (try rw [BitVec.toNat_ofNat]) <;> omega
  rw [e, hn]
  by_cases h : x.toInt < j <;> simp [h]

/-- The table's word `j` counts the rows of segments below `j`. -/
theorem tableOf_at (idx : IVec S32768 32) (j : Fin 17) : tableOf idx (ix1 j) = BitVec.ofNat 32 (cnt idx j) := by
  have e : tableOf idx (ix1 j) = Finset.fold IntOp.addi (0#32)
      (fun x => BitVec.setWidth 32 (IntOp.cmpi CmpIPredicate.sgt (BitVec.ofNat 32 ↑j) (idx (ix1 x)))) Finset.univ := by
    unfold tableOf; pointwise
  rw [e]
  simp only [setWidth_sgt _ j.isLt]
  rw [fold_addi]; rfl

/-- A small number's word, read signed. -/
theorem toInt_ofNat_small (n : ℕ) (h : n ≤ 40000) : (BitVec.ofNat 32 n).toInt = n := by
  rw [BitVec.toInt_eq_toNat_of_lt, BitVec.toNat_ofNat] <;> (try rw [BitVec.toNat_ofNat]) <;> omega

/-- The words 1 … 16, as the table's entries. -/
theorem wds_at (T : S17.Idx → Elt F .i32) (s : Fin 16) : wds T s = T (ix1 ⟨s.val + 1, by omega⟩) := by
  unfold wds wdAt
  rw [View.readAt_apply]
  refine congrArg T ?_
  funext a; fin_cases a; rfl

/-- The word a number names, as the table's entry. -/
theorem tat_at (T : S17.Idx → Elt F .i32) (k : ℕ) (hk : k < 17) : tat T (BitVec.ofNat 32 k) = T (ix1 ⟨k, hk⟩) := by
  have hn : (BitVec.ofNat 32 k).toNat = k := by rw [BitVec.toNat_ofNat]; omega
  have hb : ∀ a, at1 (BitVec.ofNat 32 k) a + S1.size a ≤ S17.size a := by
    intro a; fin_cases a
    show (BitVec.ofNat 32 k).toNat + 1 ≤ 17
    omega
  rw [← tat_of _ _ hb, View.readAt_apply]
  refine congrArg T ?_
  funext a; fin_cases a
  apply Fin.ext
  show (BitVec.ofNat 32 k).toNat + 0 = k
  omega

/-- A word the kernel reads from the table, as a number. -/
theorem wds_of (idx : IVec S32768 32) (s : Fin 16) : wds (F := F) (tableOf idx) s = BitVec.ofNat 32 (cnt idx (s.val + 1)) :=
  (wds_at _ s).trans (tableOf_at idx _)

/-- The word a number names, as a count. -/
theorem tat_eq (idx : IVec S32768 32) (k : ℕ) (hk : k < 17) : tat (F := F) (tableOf idx) (BitVec.ofNat 32 k) = BitVec.ofNat 32 (cnt idx k) :=
  (tat_at _ k hk).trans (tableOf_at idx _)

/-- How many segments end at or before row `b`. -/
theorem cntLe_table (idx : IVec S32768 32) (b : ℕ) (hb : b ≤ 40000) :
    (cntLe (wds (F := F) (tableOf idx)) (BitVec.ofNat 32 b)).toNat = ∑ s : Fin 16, if cnt idx (s.val + 1) ≤ b then 1 else 0 := by
  rw [cntLe_toNat]
  refine Finset.sum_congr rfl fun s _ => ?_
  rw [wds_of, toInt_ofNat_small _ hb, toInt_ofNat_small _ ((cnt_le idx _).trans (by omega))]
  simp only [Nat.cast_le]

/-- A tile's last row. -/
theorem addi_2047 (n : ℕ) : Scalar.addi (BitVec.ofNat 32 n) 2047#32 = BitVec.ofNat 32 (n + 2047) := by
  rw [BitVec.ofNat_add]; rfl

/-- No row above the last segment: every row's segment is one of the sixteen. -/
def Below (idx : IVec S32768 32) : Prop := ∀ r : Fin 32768, (idx (ix1 r)).toInt < 16

/-- All rows are of segments below 16. -/
theorem cnt_16 (idx : IVec S32768 32) (h : Below idx) : cnt idx 16 = 32768 := by
  unfold cnt
  rw [Finset.sum_congr rfl fun r _ => if_pos (by exact_mod_cast h r)]
  simp

/-- Of sixteen numbers whose last is above `b`, at most fifteen are at most `b`. -/
theorem count_le (g : ℕ → ℕ) (b : ℕ) (h : b < g 16) : (∑ s : Fin 16, if g (s.val + 1) ≤ b then 1 else 0) ≤ 15 := by
  have e := Fin.sum_univ_castSucc (fun s : Fin 16 => if g (s.val + 1) ≤ b then 1 else 0)
  have h' : (if g ((Fin.last 15).val + 1) ≤ b then 1 else 0) = 0 := if_neg (by show ¬ g 16 ≤ b; omega)
  rw [e, h']
  refine (Nat.add_zero _).le.trans ((Finset.sum_le_card_nsmul _ _ 1 fun s _ => ?_).trans (by simp))
  split <;> omega

/-- The segment in which a row lies is one of the sixteen. -/
theorem count_lt (idx : IVec S32768 32) (h : Below idx) (b : ℕ) (hb : b < 32768) :
    (∑ s : Fin 16, if cnt idx (s.val + 1) ≤ b then 1 else 0) ≤ 15 :=
  count_le (cnt idx) b (by rw [cnt_16 idx h]; exact hb)

/-- Both segment counts of a tile name a segment. -/
theorem small_table (idx : IVec S32768 32) (h : Below idx) (n : ℕ) (hn : n < 16) : Small (wds (F := F) (tableOf idx)) (row0 n) := by
  unfold row0
  refine ⟨?_, ?_⟩
  · rw [cntLe_table idx _ (by omega)]; exact count_lt idx h _ (by omega)
  · rw [addi_2047, cntLe_table idx _ (by omega)]; exact count_lt idx h _ (by omega)

end Cert.KernelIdeal.Seg
end
-- ==== Proof.Pre.lean ====
/-
  What the frames' precondition says of the rows' segments.
-/
module

public import proofs.«01_k».proof.Defs
public import proofs.«01_k».proof.Proof.Table

@[expose] public section

noncomputable section

namespace Cert.Proof

open Idealize.ShloMosaic Cert.KernelIdeal Cert.KernelIdeal.Seg

/-- The shapes in the precondition's text fit. -/
theorem below_facts : Cert.Pre_segments_below_16.Facts := ⟨by decide⟩

/-- A comparison's bit. -/
theorem ofBool_one (p : Bool) : BitVec.ofBool p = 1#1 ↔ p = true := by cases p <;> decide
/-- A conjunction of bits. -/
theorem andi_one (x y : BitVec 1) : IntOp.andi x y = 1#1 ↔ x = 1#1 ∧ y = 1#1 := by revert x y; decide
/-- Signed comparisons, as integers' comparisons. -/
theorem slt_one (x y : BitVec 32) : IntOp.cmpi .slt x y = 1#1 ↔ x.toInt < y.toInt := by
  rw [show IntOp.cmpi .slt x y = BitVec.ofBool (decide (x.toInt < y.toInt)) from rfl, ofBool_one, decide_eq_true_eq]
/-- Signed at-most, as the integers'. -/
theorem sle_one (x y : BitVec 32) : IntOp.cmpi .sle x y = 1#1 ↔ x.toInt ≤ y.toInt := by
  rw [show IntOp.cmpi .sle x y = BitVec.ofBool (decide (x.toInt ≤ y.toInt)) from rfl, ofBool_one, decide_eq_true_eq]
/-- Signed at-least, as the integers'. -/
theorem sge_one (x y : BitVec 32) : IntOp.cmpi .sge x y = 1#1 ↔ y.toInt ≤ x.toInt := by
  rw [show IntOp.cmpi .sge x y = BitVec.ofBool (decide (y.toInt ≤ x.toInt)) from rfl, ofBool_one, decide_eq_true_eq]

attribute [local instance] below_facts

variable {F : FTy → Type} [FloatOps F]

/-- The precondition: no row's segment is above 15. -/
theorem below_of (a0 a2 a3 a4 a5) (idx : IVec S32768 32)
    (h : Cert.Pre_segments_below_16.fn (F := F) a0 idx a2 a3 a4 a5 = fun _ => 1#1) : Below idx := by
  intro r
  have e := congrFun h (ix1 r)
  pointwise [Cert.Pre_segments_below_16.fn] at e
  rw [slt_one] at e
  exact e

end Cert.Proof
end
-- ==== Proof.Final.lean ====
/-
  What @main leaves: its arguments as they were, its result from the pooled array.
-/
module

public import proofs.«01_k».proof.Proof.Table
public import Idealize.ShloMosaic.Lib.Pipeline.ValueKit

@[expose] public section

noncomputable section

namespace Cert.KernelIdeal.Seg

open Cert.KernelIdeal Cert.KernelIdeal.Gen
open Idealize.ShloMosaic Idealize.ShloMosaic.TcCoe Idealize.ShloMosaic.Tactic
open Idealize.ShloMosaic.Pipeline (Dat)
open Idealize.SL Idealize.SL.Sem

variable {F : FTy → Type} [FloatOps F]
variable (m : (ℓ : Loc nD τ sig) → Buf (Elt F) ℓ) (ρ : Dev nD → PrngReg)

/-! ## Before the kernel -/

/-- A buffer no operation before the kernel writes. -/
theorem after_head (V : Valuation τ sig (Elt F)) (b : Ref sig .tc)
    (hb : b ∈ ([main_arg0, main_arg1, main_arg2, main_arg3, main_arg4, main_arg5] : List (Ref sig .tc))) :
    StableHlo.after (hostOps0 (F := F)) V (Proc.devRef .tc b) = V (Proc.devRef .tc b) := by
  simp only [List.mem_cons, List.not_mem_nil, or_false] at hb
  rcases hb with rfl | rfl | rfl | rfl | rfl | rfl <;>
  · simp only [hostOps0, StableHlo.TRef.binary, StableHlo.TRef.nullary, StableHlo.TRef.reshape, StableHlo.TRef.unary, StableHlo.TRef.toBuf, StableHlo.TRef.ofBuf, cast_eq]
    after_results <;> rfl

/-- The first layer's bias, as a row, when the kernel starts. -/
theorem after_b1 (V : Valuation τ sig (Elt F)) : StableHlo.after (hostOps0 (F := F)) V (Proc.devRef .tc main_call0_v8)
    = shapeCast S1x512 (V (Proc.devRef .tc main_arg3)) shapeCasts_S512_S1x512 := by
  simp only [hostOps0, StableHlo.TRef.binary, StableHlo.TRef.nullary, StableHlo.TRef.reshape, StableHlo.TRef.unary, StableHlo.TRef.toBuf, StableHlo.TRef.ofBuf, cast_eq]
  after_results <;> rfl

/-- The second layer's bias, as a row, when the kernel starts. -/
theorem after_b2 (V : Valuation τ sig (Elt F)) : StableHlo.after (hostOps0 (F := F)) V (Proc.devRef .tc main_call0_v9)
    = shapeCast S1x1024 (V (Proc.devRef .tc main_arg5)) shapeCasts_S1024_S1x1024 := by
  simp only [hostOps0, StableHlo.TRef.binary, StableHlo.TRef.nullary, StableHlo.TRef.reshape, StableHlo.TRef.unary, StableHlo.TRef.toBuf, StableHlo.TRef.ofBuf, cast_eq]
  after_results <;> rfl

/-- The rows' segments. -/
abbrev idxOf : IVec S32768 32 := m (((0 : Dev nD) : Thread nD τ).loc main_arg1)

/-- The kernel's table is the one of the rows' segments. -/
theorem tbl_eq : tbl m = tableOf (idxOf m) := after_table _

/-- The host's operations before the kernel leave the arguments as they were. -/
theorem V0r_arg (c : Dev nD) (b : Ref sig .tc)
    (hb : b ∈ ([main_arg0, main_arg1, main_arg2, main_arg3, main_arg4, main_arg5] : List (Ref sig .tc))) :
    V0r m c b = m ((c : Thread nD τ).loc b) := after_head _ b hb

/-- Both segment counts of every tile name a segment. -/
theorem small_of (h : Below (idxOf m)) : ∀ n < 16, Small (wds (tbl m)) (row0 n) := by
  rw [tbl_eq]; exact small_table _ h

/-! ## After the kernel -/

/-- The last point. -/
abbrev tLast : Fin (cfgT m).N := ⟨15, by show 15 < grid0.N; rw [N_0]; omega⟩

/-- The last point writes the whole result block back. -/
theorem out_whole : ((cfgT m).win (2 : Fin 3)).WholeAt (tLast m) := by
  refine ⟨?_, ?_, ?_⟩
  · rw [Pipeline.Window.flush_out _ rfl]; exact Or.inl N_0.symm
  · intro t h
    by_contra hne
    rw [flush_2 m t fun e => hne (Fin.ext e)] at h
    exact Bool.false_ne_true h
  · intro a; fin_cases a <;> exact ⟨rfl, rfl⟩

/-- The kernel's result array holds the result block. -/
theorem arr_out (c : Dev nD) : (dats m 0 c).arrAt (2 : Fin 3) (cfgT m).N = result m c :=
  (dats m 0 c).arrAt_eq_of_after_last (2 : Fin 3) (tLast m) (out_whole m) (result m c) fun j => by
    rw [after_2]; rfl

/-- The reshape after the kernel writes only the result. -/
theorem after_tail (V : Valuation τ sig (Elt F)) (b : Ref sig .tc) (hb : b ≠ main_v0) :
    StableHlo.after [hostOps1 (F := F)].flatten V (Proc.devRef .tc b) = V (Proc.devRef .tc b) := by
  refine StableHlo.after_of_forall_not_mem _ _ fun op h => ?_
  rw [show [hostOps1 (F := F)].flatten = [tailOp] from rfl] at h
  obtain rfl := List.mem_singleton.mp h
  rw [tail_writes, Finset.mem_singleton]
  exact fun e => hb (Proc.devRef_injective _ e)

/-- The result is the kernel's result array, reshaped. -/
theorem after_tail_out (V : Valuation τ sig (Elt F)) : StableHlo.after [hostOps1 (F := F)].flatten V (Proc.devRef .tc main_v0)
    = shapeCast S16x256x4 (V (Proc.devRef .tc main_call0_v10)) shapeCasts_S16x1024_S16x256x4 := by
  rw [show [hostOps1 (F := F)].flatten = hostOps1 from rfl]
  simp only [hostOps1, StableHlo.TRef.reshape, StableHlo.TRef.toBuf, StableHlo.TRef.ofBuf, cast_eq]
  after_results <;> rfl

/-- An argument that is no array of the pipeline's. -/
theorem final_arg (c : Dev nD) (b : Ref sig .tc) (hb : b ∈ ([main_arg1, main_arg3, main_arg4, main_arg5] : List (Ref sig .tc))) :
    final m c b = m ((c : Thread nD τ).loc b) := by
  have h1 : ∀ b ∈ ([main_arg1, main_arg3, main_arg4, main_arg5] : List (Ref sig .tc)), b ≠ main_v0 ∧ (∀ w, Pipeline.arrRef spec0 w ≠ b)
      ∧ b ∈ ([main_arg0, main_arg1, main_arg2, main_arg3, main_arg4, main_arg5] : List (Ref sig .tc)) := by decide
  obtain ⟨hv, hw, hm⟩ := h1 b hb
  unfold final Pipeline.afterTail
  rw [after_tail _ _ hv]
  exact (Pipeline.withArrays_of_ne spec0 c (V0 m c) _ b hw).trans (V0r_arg m c b hm)

/-- At the end the result is the result block, reshaped. -/
theorem final_out (c : Dev nD) : final m c main_v0 = shapeCast S16x256x4 (result m c) shapeCasts_S16x1024_S16x256x4 := by
  unfold final Pipeline.afterTail
  rw [after_tail_out]
  refine congrArg (shapeCast S16x256x4 · shapeCasts_S16x1024_S16x256x4) ?_
  exact (Pipeline.withArrays_arr spec0 winFacts0.arr_inj c (V0 m c) (fun w => (dats m 0 c).arrAt w (cfgT m).N) (2 : Fin 3)).trans (arr_out m c)

/-- @main's run: the result, the arguments, the semaphores. -/
theorem run (h : Below (idxOf m)) : θ_run defs (onTc (τ := τ) (main (F := F))) ⟨m, fun _ => 0, ρ⟩ fun r =>
    (∀ c : Dev nD, r.2.mem ((c.tc : Thread nD τ).loc main_v0) = shapeCast S16x256x4 (result m c) shapeCasts_S16x1024_S16x256x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 := by
  refine (θ_run defs _ _).mono (fun r hr => ⟨fun c => ?_, hr.2⟩) (run_main m ρ (small_of m h))
  obtain ⟨hA, hR⟩ := hr.1 c
  have hin : ∀ w : Fin 3, ((cfgT m).win w).isOut = false → ∀ b, Pipeline.arrRef spec0 w = b →
      b ∈ ([main_arg0, main_arg1, main_arg2, main_arg3, main_arg4, main_arg5] : List (Ref sig .tc)) →
      r.2.mem ((c : Thread nD τ).loc b) = m ((c : Thread nD τ).loc b) := by
    rintro w hw b rfl hm
    exact (hA w).trans (((dats m 0 c).arrAt_in w hw _).trans ((A_eq m c w).trans (V0r_arg m c _ hm)))
  refine ⟨(hR main_v0 (show _ ∈ Pipeline.restRefs sig spec0 by decide)).trans (final_out m c), hin 0 rfl _ rfl (by decide), ?_, hin 1 rfl _ rfl (by decide), ?_, ?_, ?_⟩ <;>
  exact (hR _ (show _ ∈ Pipeline.restRefs sig spec0 by decide)).trans (final_arg m c _ (by decide))

end Cert.KernelIdeal.Seg
end
-- ==== Proof.Twin.lean ====
/-
  The program as printed for words and the program as printed for real numbers are one text over two sets of names:
  read at the same float values they are the same program.
-/
module

public import proofs.«01_k».proof.Defs
public import proofs.«01_k».proof.Proof.Gen.Kernel
public import proofs.«01_k».proof.Proof.Gen.KernelIdeal

@[expose] public section

set_option maxRecDepth 20000

namespace Cert.Proof

open Idealize.ShloMosaic

/-- The kernel's body. -/
theorem twin_body : @Cert.Kernel.cc0__body Bits _ _ = @Cert.KernelIdeal.cc0__body Bits _ _ := rfl

/-- The body table: the body at the same operands. -/
theorem twin_bodies : Cert.Kernel.defs₀ (F := Bits) = Cert.KernelIdeal.defs₀ (F := Bits) := by
  unfold Cert.Kernel.defs₀ Cert.KernelIdeal.defs₀
  congr 1
  funext l x
  match l, x with
  | 0, (t, s) =>
    dsimp only
    rw [twin_body]
    rfl
  | ⟨_ + 1, h⟩, _ => exact absurd h (Nat.not_lt.2 (Nat.le_add_left _ _))

/-- The pipeline. -/
theorem twin_pipeline : Cert.Kernel.pcfgs (F := Bits) = Cert.KernelIdeal.pcfgs (F := Bits) := rfl

/-- The body table with the pipeline's own labels. -/
theorem twin_defs : Cert.Kernel.defs (F := Bits) = Cert.KernelIdeal.defs (F := Bits) := by
  unfold Cert.Kernel.defs Cert.KernelIdeal.defs
  exact congrArg (Idealize.ShloMosaic.Pipeline.defs (Cert.KernelIdeal.pcfgs (F := Bits))) twin_bodies

/-- The main program. -/
theorem twin_main : Cert.Kernel.main (F := Bits) = Cert.KernelIdeal.main (F := Bits) := rfl

end Cert.Proof
-- ==== Proof.Frames.lean ====
/-
  The frames: the kernel on words, the kernel on real numbers, the reference.
-/
module

public import proofs.«01_k».proof.Defs
public import proofs.«01_k».proof.Proof.Pre
public import proofs.«01_k».proof.Proof.Final
public import proofs.«01_k».proof.Proof.Twin
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem Cert.KernelIdeal.Seg

attribute [local instance] below_facts

/-- The kernel on words leaves its arguments and every semaphore as they were. -/
theorem frame_K : Cert.quiescent_Kernel := fun m g hpre => by
  rw [twin_defs, twin_main]
  exact (θ_run Cert.KernelIdeal.defs _ _).mono (fun _ h => ⟨fun c => (h.1 c).2, h.2⟩)
    (run (F := Bits) m g (below_of (F := Bits) _ _ _ _ _ _ (hpre 0)))

/-- So does the kernel on real numbers, -/
theorem frame_KI : Cert.quiescent_KernelIdeal := fun m g hpre =>
  (θ_run Cert.KernelIdeal.defs _ _).mono (fun _ h => ⟨fun c => (h.1 c).2, h.2⟩)
    (run (F := Ideal) m g (below_of (F := Ideal) _ _ _ _ _ _ (hpre 0)))

/-- and the reference, which touches no semaphore. -/
theorem frame_RI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof
end
-- ==== Proof.Ascend.lean ====
/-
  What the value claim's precondition says of the rows' segments: in range and ascending.
-/
module

public import proofs.«01_k».proof.Defs
public import proofs.«01_k».proof.Proof.Pre

@[expose] public section

noncomputable section

namespace Cert.Proof

open Idealize.ShloMosaic Cert.KernelIdeal Cert.KernelIdeal.Seg

/-- The shapes in the precondition's text fit. -/
theorem sorted_facts : Cert.Pre_segments_sorted.Facts := ⟨by decide, by decide, by decide, by decide⟩

attribute [local instance] sorted_facts

variable {F : FTy → Type} [FloatOps F]

/-- The rows' segments lie in [0, 16) and ascend. -/
structure Ascend (idx : IVec S32768 32) : Prop where
  below : Below idx
  nonneg : ∀ r : Fin 32768, 0 ≤ (idx (ix1 r)).toInt
  next : ∀ r (h : r + 1 < 32768), (idx (ix1 ⟨r, by omega⟩)).toInt ≤ (idx (ix1 ⟨r + 1, h⟩)).toInt

/-- The precondition, entry by entry. -/
theorem ascend_of (a0 a2 a3 a4 a5) (idx : IVec S32768 32)
    (h : Cert.Pre_segments_sorted.fn (F := F) a0 idx a2 a3 a4 a5 = fun _ => 1#1) : Ascend idx := by
  have e := fun r : Fin 32768 => congrFun h (ix1 r)
  pointwise [Cert.Pre_segments_sorted.fn] at e
  simp only [andi_one, slt_one, sle_one, sge_one] at e
  refine ⟨fun r => (e r).1.2, fun r => (e r).1.1, fun r hr => ?_⟩
  have e' := (e ⟨r + 1, hr⟩).2
  rw [dif_neg (by show ¬ r + 1 < 1; omega)] at e'
  exact e'

/-- The segments ascend over any distance. -/
theorem Ascend.mono {idx : IVec S32768 32} (h : Ascend idx) {r r' : Fin 32768} (hr : r.val ≤ r'.val) :
    (idx (ix1 r)).toInt ≤ (idx (ix1 r')).toInt := by
  obtain ⟨r, h1⟩ := r
  obtain ⟨r', h2⟩ := r'
  obtain ⟨d, rfl⟩ : ∃ d, r' = r + d := ⟨r' - r, by simp only at hr; omega⟩
  clear hr
  induction d with
  | zero => exact le_rfl
  | succ d ih => exact (ih (by omega)).trans (h.next (r + d) h2)

end Cert.Proof
end
-- ==== Proof.Upd.lean ====
/-
  One pass over real numbers, entry by entry: which bounds its result has.
-/
module

public import proofs.«01_k».proof.Proof.Table

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic

/-- The literal that stands for minus infinity. -/
theorem ninf : Ideal.ofBits .f32 0xFF800000#32 = (⊥ : EReal) := by
  simp [Ideal.ofBits, Ideal.ieee]

/-- A choice by a bit. -/
theorem select_le (p : BitVec 1) (x c : EReal) : Scalar.select p x (⊥ : EReal) ≤ c ↔ (p = 1#1 → x ≤ c) := by
  unfold Scalar.select
  split <;> simp_all

/-- An equality's bit. -/
theorem eq_one (x y : BitVec 32) : IntOp.cmpi .eq x y = 1#1 ↔ x = y := by
  rw [show IntOp.cmpi .eq x y = BitVec.ofBool (x == y) from rfl]
  cases h : (x == y) <;> simp_all

/-- A pass's result is below `c` exactly if what it merges into was, and so are the picked rows in the segment's row. -/
theorem upd_le (mask : IVec S2048x1 1) (w : BitVec 32) (h : FVec Ideal S2048x512 .f32) (P : FVec Ideal S16x512 .f32) (s : Fin 16) (d : Fin 512) (c : EReal) :
    upd mask w h P (ix2 s d) ≤ c ↔ P (ix2 s d) ≤ c ∧ (BitVec.ofNat 32 s = w → ∀ r : Fin 2048, mask (ix2 r 0) = 1#1 → h (ix2 r d) ≤ c) := by
  pointwise [upd]
  rw [ninf, max_le_iff, select_le, eq_one, Finset.fold_max_le]
  simp only [select_le, bot_le, true_and, Finset.mem_univ, true_implies]

/-- A conjunction of bits. -/
theorem and_one (x y : BitVec 1) : IntOp.andi x y = 1#1 ↔ x = 1#1 ∧ y = 1#1 := by revert x y; decide

/-- Signed comparisons of small words. -/
theorem slt_small (a b : ℕ) (ha : a ≤ 40000) (hb : b ≤ 40000) : IntOp.cmpi .slt (BitVec.ofNat 32 a) (BitVec.ofNat 32 b) = 1#1 ↔ a < b := by
  rw [show IntOp.cmpi .slt (BitVec.ofNat 32 a) (BitVec.ofNat 32 b) = BitVec.ofBool (decide ((BitVec.ofNat 32 a).toInt < (BitVec.ofNat 32 b).toInt)) from rfl,
    toInt_ofNat_small _ ha, toInt_ofNat_small _ hb]
  by_cases h : a < b <;> simp [h]
/-- Signed at-least of small words. -/
theorem sge_small (a b : ℕ) (ha : a ≤ 40000) (hb : b ≤ 40000) : IntOp.cmpi .sge (BitVec.ofNat 32 a) (BitVec.ofNat 32 b) = 1#1 ↔ b ≤ a := by
  rw [show IntOp.cmpi .sge (BitVec.ofNat 32 a) (BitVec.ofNat 32 b) = BitVec.ofBool (decide ((BitVec.ofNat 32 b).toInt ≤ (BitVec.ofNat 32 a).toInt)) from rfl,
    toInt_ofNat_small _ ha, toInt_ofNat_small _ hb]
  by_cases h : b ≤ a <;> simp [h]

/-- Small numbers' words differ. -/
theorem ofNat_inj (a b : ℕ) (ha : a ≤ 40000) (hb : b ≤ 40000) : BitVec.ofNat 32 a = BitVec.ofNat 32 b ↔ a = b := by
  refine ⟨fun h => ?_, fun h => by rw [h]⟩
  have e := congrArg BitVec.toNat h
  rw [BitVec.toNat_ofNat, BitVec.toNat_ofNat] at e
  omega

/-- Row `r` of the tile from row `b`. -/
theorem rows_at (b : ℕ) (r : Fin 2048) : rows (BitVec.ofNat 32 b) (ix2 r 0) = BitVec.ofNat 32 (r + b) := by
  pointwise [k0_pay14]
  exact addi_ofNat _ _

section Pass
variable (b w x e : ℕ) (hb : b ≤ 30720) (hw : w ≤ 40000) (hx : x ≤ 40000) (he : e ≤ 40000)
  (h : FVec Ideal S2048x512 .f32) (P : FVec Ideal S16x512 .f32) (s : Fin 16) (d : Fin 512) (c : EReal)
include hb hw he

/-- The pass over the rows before row `e`. -/
theorem passA_le : passA (BitVec.ofNat 32 b) (BitVec.ofNat 32 w) (BitVec.ofNat 32 e) h P (ix2 s d) ≤ c
    ↔ P (ix2 s d) ≤ c ∧ (s.val = w → ∀ r : Fin 2048, b + r.val < e → h (ix2 r d) ≤ c) := by
  have hm : ∀ r : Fin 2048, cmpi .slt (rows (BitVec.ofNat 32 b)) (broadcast S2048x1 (BitVec.ofNat 32 e)) (ix2 r 0) = 1#1 ↔ b + r.val < e := by
    intro r
    rw [show cmpi .slt (rows (BitVec.ofNat 32 b)) (broadcast S2048x1 (BitVec.ofNat 32 e)) (ix2 r 0)
      = IntOp.cmpi .slt (rows (BitVec.ofNat 32 b) (ix2 r 0)) (BitVec.ofNat 32 e) from rfl, rows_at, slt_small _ _ (by omega) he, Nat.add_comm]
  rw [upd_le, ofNat_inj _ _ (by omega) hw]
  simp only [hm]

include hx

/-- The pass over the rows from row `x` on and before row `e`. -/
theorem passB_le : passB (BitVec.ofNat 32 b) (BitVec.ofNat 32 w) (BitVec.ofNat 32 x) (BitVec.ofNat 32 e) h P (ix2 s d) ≤ c
    ↔ P (ix2 s d) ≤ c ∧ (s.val = w → ∀ r : Fin 2048, x ≤ b + r.val → b + r.val < e → h (ix2 r d) ≤ c) := by
  have hm : ∀ r : Fin 2048, andi (cmpi .sge (rows (BitVec.ofNat 32 b)) (broadcast S2048x1 (BitVec.ofNat 32 x)))
      (cmpi .slt (rows (BitVec.ofNat 32 b)) (broadcast S2048x1 (BitVec.ofNat 32 e))) (ix2 r 0) = 1#1 ↔ x ≤ b + r.val ∧ b + r.val < e := by
    intro r
    rw [show andi (cmpi .sge (rows (BitVec.ofNat 32 b)) (broadcast S2048x1 (BitVec.ofNat 32 x))) (cmpi .slt (rows (BitVec.ofNat 32 b)) (broadcast S2048x1 (BitVec.ofNat 32 e))) (ix2 r 0)
      = IntOp.andi (IntOp.cmpi .sge (rows (BitVec.ofNat 32 b) (ix2 r 0)) (BitVec.ofNat 32 x)) (IntOp.cmpi .slt (rows (BitVec.ofNat 32 b) (ix2 r 0)) (BitVec.ofNat 32 e)) from rfl,
      rows_at, and_one, slt_small _ _ (by omega) he, sge_small _ _ (by omega) hx, Nat.add_comm]
  rw [upd_le, ofNat_inj _ _ (by omega) hw]
  simp only [hm, and_imp]

end Pass

end Cert.KernelIdeal.Seg
end
-- ==== Proof.Tile.lean ====
/-
  All passes of one tile over real numbers: each segment's row takes in the tile's rows of that segment.

  `g` is the table: segment `s` has the rows from `g s` on and before `g (s + 1)`.
-/
module

public import proofs.«01_k».proof.Proof.Upd

@[expose] public section

noncomputable section

namespace Cert.KernelIdeal.Seg

open Cert.KernelIdeal Cert.KernelIdeal.Gen
open Idealize.ShloMosaic Idealize.ShloMosaic.TcCoe Idealize.ShloMosaic.Tactic

/-- How many of the first numbers have a property that passes down: exactly the numbers below the count have it. -/
theorem count_iff (p : ℕ → Prop) [DecidablePred p] (hp : ∀ s, p (s + 1) → p s) (n : ℕ) :
    (∀ s, s < n → (s < (∑ s : Fin n, if p s.val then 1 else 0) ↔ p s)) ∧ (∑ s : Fin n, if p s.val then 1 else 0) ≤ n
    ∧ (p n → (∑ s : Fin n, if p s.val then 1 else 0) = n) := by
  induction n with
  | zero => exact ⟨fun s h => absurd h (Nat.not_lt_zero s), le_rfl, fun _ => rfl⟩
  | succ n ih =>
    obtain ⟨h1, h2, h3⟩ := ih
    have e := Fin.sum_univ_castSucc (fun s : Fin (n + 1) => if p s.val then 1 else 0)
    simp only [Fin.val_castSucc, Fin.val_last] at e
    rw [e]
    generalize (∑ s : Fin n, if p s.val then 1 else 0) = k at *
    by_cases hn : p n
    · rw [if_pos hn, h3 hn]
      rw [h3 hn] at h1
      refine ⟨fun s hs => ?_, le_rfl, fun _ => rfl⟩
      rcases Nat.lt_succ_iff_lt_or_eq.1 hs with h | rfl
      · exact iff_of_true hs ((h1 s h).1 h)
      · exact iff_of_true hs hn
    · rw [if_neg hn, Nat.add_zero]
      refine ⟨fun s hs => ?_, by omega, fun h => absurd (hp n h) hn⟩
      rcases Nat.lt_succ_iff_lt_or_eq.1 hs with h | rfl
      · exact h1 s h
      · exact iff_of_false (by omega) hn

section Tile
variable {T : S17.Idx → Elt Ideal .i32} {g : ℕ → ℕ} {b L U : ℕ} (hT : ∀ k, k < 17 → tat T (BitVec.ofNat 32 k) = BitVec.ofNat 32 (g k))
  (hg : ∀ k, g k ≤ 32768) (hb : b ≤ 30720) (hL : lo T (BitVec.ofNat 32 b) = BitVec.ofNat 32 L) (hU : hi T (BitVec.ofNat 32 b) = BitVec.ofNat 32 U)
  (hLU : L ≤ U) (hU15 : U ≤ 15) (hLb : g L ≤ b)
  (h : FVec Ideal S2048x512 .f32) (P : FVec Ideal S16x512 .f32) (s : Fin 16) (d : Fin 512) (c : EReal)

/-- The tile's rows of segment `s` are below `c` in column `d`. -/
def In (g : ℕ → ℕ) (b : ℕ) (h : FVec Ideal S2048x512 .f32) (s : ℕ) (d : Fin 512) (c : EReal) : Prop :=
  ∀ r : Fin 2048, g s ≤ b + r.val → b + r.val < g (s + 1) → h (ix2 r d) ≤ c

include hT hg hb hL hLU hU15

/-- The first segment's pass. -/
theorem red1_le (hLb : g L ≤ b) : red1 T (BitVec.ofNat 32 b) h P (ix2 s d) ≤ c ↔ P (ix2 s d) ≤ c ∧ (s.val = L → In g b h s.val d c) := by
  unfold red1
  rw [hL, show (1#32 : BitVec 32) = BitVec.ofNat 32 1 from rfl, addi_ofNat, hT _ (by omega), passA_le _ _ _ hb (by omega) ((hg _).trans (by omega))]
  refine and_congr_right fun _ => forall_congr' fun hs => ?_
  unfold In
  rw [hs]
  exact forall_congr' fun r => ⟨fun k _ => k, fun k => k (by omega)⟩

/-- The second segment's pass. -/
theorem red2_le (hlt : L < U) : red2 T (BitVec.ofNat 32 b) h P (ix2 s d) ≤ c ↔ P (ix2 s d) ≤ c ∧ (s.val = L + 1 → In g b h s.val d c) := by
  unfold red2
  rw [hL, show (1#32 : BitVec 32) = BitVec.ofNat 32 1 from rfl, show (2#32 : BitVec 32) = BitVec.ofNat 32 2 from rfl, addi_ofNat, addi_ofNat,
    hT _ (by omega), hT _ (by omega), passB_le _ _ _ _ hb (by omega) ((hg _).trans (by omega)) ((hg _).trans (by omega))]
  refine and_congr_right fun _ => forall_congr' fun hs => ?_
  unfold In
  rw [hs]

/-- Every further segment's pass. -/
theorem red3_le (k : ℕ) (hk : L + 1 + k ≤ U) : red3 T (BitVec.ofNat 32 b) h k P (ix2 s d) ≤ c
    ↔ P (ix2 s d) ≤ c ∧ (L + 2 ≤ s.val → s.val < L + 2 + k → In g b h s.val d c) := by
  induction k with
  | zero => exact ⟨fun k => ⟨k, fun _ _ => by omega⟩, fun k => k.1⟩
  | succ k ih =>
    unfold red3
    rw [hL, show (2#32 : BitVec 32) = BitVec.ofNat 32 2 from rfl, addi_ofNat, iv_ofNat, show (1#32 : BitVec 32) = BitVec.ofNat 32 1 from rfl, addi_ofNat,
      hT _ (by omega), hT _ (by omega), passB_le _ _ _ _ hb (by omega) ((hg _).trans (by omega)) ((hg _).trans (by omega)), ih (by omega), and_assoc]
    refine and_congr_right fun _ => ⟨fun ⟨k1, k2⟩ a1 a2 => ?_, fun k1 => ⟨fun a1 a2 => k1 a1 (by omega), fun hs => ?_⟩⟩
    · by_cases hs : s.val = L + 2 + k
      · have := k2 hs
        rw [← hs] at this
        exact this
      · exact k1 a1 (by omega)
    · have := k1 (by omega) (by omega)
      rw [hs] at this
      exact this

include hU

/-- All passes: the segments from the first to the last that reach into the tile. -/
theorem reduceTile_le (hLb : g L ≤ b) : reduceTile T (BitVec.ofNat 32 b) h P (ix2 s d) ≤ c
    ↔ P (ix2 s d) ≤ c ∧ (L ≤ s.val → s.val ≤ U → In g b h s.val d c) := by
  have e1 : Scalar.addi (BitVec.ofNat 32 L) 1#32 = BitVec.ofNat 32 (L + 1) := addi_ofNat L 1
  have h12 : red12 T (BitVec.ofNat 32 b) h P (ix2 s d) ≤ c ↔ P (ix2 s d) ≤ c ∧ (L ≤ s.val → s.val ≤ U → s.val ≤ L + 1 → In g b h s.val d c) := by
    by_cases hlt : L < U
    · rw [red12_pos (by rw [hL, hU, gtC_iff _ _ (by omega) (by omega)]; exact hlt), red2_le hT hg hb hL hLU hU15 _ _ _ _ _ hlt,
        red1_le hT hg hb hL hLU hU15 _ _ _ _ _ hLb, and_assoc]
      refine and_congr_right fun _ => ⟨fun ⟨k1, k2⟩ a1 a2 a3 => ?_, fun k => ⟨fun hs => k (by omega) (by omega) (by omega), fun hs => k (by omega) (by omega) (by omega)⟩⟩
      by_cases hs : s.val = L
      · exact k1 hs
      · exact k2 (by omega)
    · rw [red12_neg (by rw [hL, hU, gtC_iff _ _ (by omega) (by omega)]; exact hlt), red1_le hT hg hb hL hLU hU15 _ _ _ _ _ hLb]
      exact and_congr_right fun _ => ⟨fun k a1 a2 a3 => k (by omega), fun k hs => k (by omega) (by omega) (by omega)⟩
  by_cases hlt : L + 1 < U
  · rw [reduceTile_pos (by rw [hL, hU, e1, gtC_iff _ _ (by omega) (by omega)]; exact hlt), hL, hU, segLoop_trips _ _ hlt hU15,
      red3_le hT hg hb hL hLU hU15 _ _ _ _ _ _ (by omega), h12, and_assoc]
    refine and_congr_right fun _ => ⟨fun ⟨k1, k2⟩ a1 a2 => ?_, fun k => ⟨fun a1 a2 a3 => k a1 a2, fun a1 a2 => k (by omega) (by omega)⟩⟩
    by_cases hs : s.val ≤ L + 1
    · exact k1 a1 a2 hs
    · exact k2 (by omega) (by omega)
  · rw [reduceTile_neg (by rw [hL, hU, e1, gtC_iff _ _ (by omega) (by omega)]; exact hlt), h12]
    exact and_congr_right fun _ => ⟨fun k a1 a2 => k a1 a2 (by omega), fun k a1 a2 a3 => k a1 a2⟩

end Tile

end Cert.KernelIdeal.Seg
end
-- ==== Proof.Segment.lean ====
/-
  With ascending segments the table bounds each segment's rows, and a tile's passes take in the tile's rows of every
  segment.
-/
module

public import proofs.«01_k».proof.Proof.Ascend
public import proofs.«01_k».proof.Proof.Tile
public import proofs.«01_k».proof.Proof.State

@[expose] public section

noncomputable section

namespace Cert.KernelIdeal.Seg

open Cert.KernelIdeal Cert.KernelIdeal.Gen
open Idealize.ShloMosaic Cert.Proof

variable {idx : IVec S32768 32} (ha : Ascend idx)
include ha

/-- A row lies before the table's word `k` exactly if its segment is below `k`. -/
theorem lt_cnt (k : ℕ) (R : Fin 32768) : R.val < cnt idx k ↔ (idx (ix1 R)).toInt < k := by
  have key := (count_iff (fun r => ∃ h : r < 32768, (idx (ix1 ⟨r, h⟩)).toInt < k)
    (fun s ⟨h, e⟩ => ⟨by omega, lt_of_le_of_lt (ha.next s h) e⟩) 32768).1 R.val R.isLt
  have e : (∑ s : Fin 32768, if ∃ h : s.val < 32768, (idx (ix1 ⟨s.val, h⟩)).toInt < k then 1 else 0) = cnt idx k := by
    unfold cnt
    exact Finset.sum_congr rfl fun r _ => if_congr ⟨fun ⟨_, h⟩ => h, fun h => ⟨r.isLt, h⟩⟩ rfl rfl
  rw [e] at key
  exact key.trans ⟨fun ⟨_, h⟩ => h, fun h => ⟨R.isLt, h⟩⟩

/-- The rows between two neighbouring words of the table are the segment's. -/
theorem mem_seg (s : ℕ) (R : Fin 32768) : (cnt idx s ≤ R.val ∧ R.val < cnt idx (s + 1)) ↔ (idx (ix1 R)).toInt = s := by
  rw [← not_lt, lt_cnt ha, lt_cnt ha]
  push_cast
  omega

/-- No row has a segment below 0. -/
theorem cnt_zero : cnt idx 0 = 0 := by
  unfold cnt
  refine Finset.sum_eq_zero fun r _ => if_neg ?_
  have := ha.nonneg r
  push_cast
  omega

/-- A tile's passes: row `s` of the pooled array takes in the tile's rows of segment `s`. -/
theorem tile_le (n : ℕ) (hn : n < 16) (h : FVec Ideal S2048x512 .f32) (P : FVec Ideal S16x512 .f32) (s : Fin 16) (d : Fin 512) (c : EReal) :
    reduceTile (F := Ideal) (tableOf idx) (row0 n) h P (ix2 s d) ≤ c ↔ P (ix2 s d) ≤ c
      ∧ ∀ r : Fin 2048, (idx (ix1 ⟨2048 * n + r.val, by omega⟩)).toInt = s.val → h (ix2 r d) ≤ c := by
  have word : ∀ b ≤ 40000, cntLe (wds (F := Ideal) (tableOf idx)) (BitVec.ofNat 32 b) = BitVec.ofNat 32 (∑ s : Fin 16, if cnt idx (s.val + 1) ≤ b then 1 else 0) := by
    intro b hb
    rw [← cntLe_table (F := Ideal) idx b hb, BitVec.ofNat_toNat, BitVec.setWidth_eq]
  have hc : ∀ b, b < 32768 → ∃ k ≤ 15, (∑ s : Fin 16, if cnt idx (s.val + 1) ≤ b then 1 else 0) = k ∧ ∀ s < 16, (s < k ↔ cnt idx (s + 1) ≤ b) := by
    intro b hb
    exact ⟨_, count_lt idx ha.below b hb, rfl, (count_iff (fun s => cnt idx (s + 1) ≤ b) (fun s e => (cnt_mono idx (by omega)).trans e) 16).1⟩
  obtain ⟨L, hL15, hL, hLs⟩ := hc (2048 * n) (by omega)
  obtain ⟨U, hU15, hU, hUs⟩ := hc (2048 * n + 2047) (by omega)
  have hLb : cnt idx L ≤ 2048 * n := by
    cases L with
    | zero => rw [cnt_zero ha]; omega
    | succ l => exact (hLs l (by omega)).1 (by omega)
  have hLU : L ≤ U := by
    by_contra hlt
    have := (hLs U (by omega)).1 (by omega)
    have := (hUs U (by omega)).2 (by omega)
    omega
  unfold row0
  rw [reduceTile_le (fun k hk => tat_eq idx k hk) (cnt_le idx) (by omega) ((word _ (by omega)).trans (by rw [hL]))
    (by unfold hi; rw [addi_2047]; exact (word _ (by omega)).trans (by rw [hU])) hLU hU15 _ _ _ _ _ hLb]
  refine and_congr_right fun _ => ⟨fun k r hr => ?_, fun k _ _ r h1 h2 => k r ((mem_seg ha _ _).1 ⟨h1, h2⟩)⟩
  obtain ⟨h1, h2⟩ := (mem_seg ha s.val ⟨2048 * n + r.val, by omega⟩).2 hr
  simp only at h1 h2
  refine k ?_ ?_ r h1 h2
  · by_contra hlt
    have := (hLs s.val s.isLt).1 (by omega)
    omega
  · by_contra hlt
    have e : s.val - 1 + 1 = s.val := by omega
    have := (not_congr (hUs (s.val - 1) (by omega))).1 (by omega)
    rw [e] at this
    omega

end Cert.KernelIdeal.Seg
end
-- ==== Proof.Pooled.lean ====
/-
  The pooled array over real numbers: each row's segment maximum of the products, over the tiles reduced so far.
-/
module

public import proofs.«01_k».proof.Proof.Segment
public import proofs.«01_k».proof.Proof.Final
public import proofs.«01_k».proof.Proof.Obligation

@[expose] public section

set_option maxRecDepth 16384

noncomputable section

namespace Cert.KernelIdeal.Seg

open Cert.KernelIdeal Cert.KernelIdeal.Gen
open Idealize.ShloMosaic Idealize.ShloMosaic.TcCoe Cert.Proof

variable {F : FTy → Type} [FloatOps F] (m' : (ℓ : Loc nD τ sig) → Buf (Elt F) ℓ)

/-- A grid point's block of the rows starts at the point's 2048-th row; -/
theorem iblk0_at (c : Dev nD) (n : ℕ) (hn : n < 16) (r : Fin 2048) (k : Fin 64) :
    iblk m' c 0 (pt m' n) (ix2 r k) = (m' ((c : Thread nD τ).loc main_arg0) : S32768x64.Idx → Elt F .f32) (ix2 ⟨2048 * n + r.val, by omega⟩ k) := by
  have e : (pt m' n).val = n := Nat.mod_eq_of_lt hn
  have hc := coord_val m' (pt m' n)
  have hi : ((cfgT m').win (0 : Fin 3)).index (pt m' n) (0 : Fin 2) = n := by
    show (BitVec.ofNat 32 ((grid0.coords (pt m' n)) 0).val).toNat = n
    rw [hc, e, BitVec.toNat_ofNat]
    omega
  rw [← V0r_arg m' c main_arg0 (by decide)]
  refine congrArg (V0r m' c main_arg0) (funext fun a => Fin.ext ?_)
  match a with
  | ⟨0, _⟩ => show ((cfgT m').win (0 : Fin 3)).index (pt m' n) (0 : Fin 2) * 2048 + 1 * r.val = 2048 * n + r.val; omega
  | ⟨1, _⟩ => show 0 * 64 + 1 * k.val = k.val; omega

/-- and the weights' block is all of them. -/
theorem iblk1_at (c : Dev nD) (n : ℕ) (k : Fin 64) (d : Fin 512) :
    iblk m' c 1 (pt m' n) (ix2 k d) = (m' ((c : Thread nD τ).loc main_arg2) : S64x512.Idx → Elt F .f32) (ix2 k d) := by
  rw [← V0r_arg m' c main_arg2 (by decide)]
  refine congrArg (V0r m' c main_arg2) (funext fun a => Fin.ext ?_)
  match a with
  | ⟨0, _⟩ => show 0 * 64 + 1 * k.val = k.val; omega
  | ⟨1, _⟩ => show 0 * 512 + 1 * d.val = d.val; omega

variable (m : (ℓ : Loc nD τ sig) → Buf (Elt Ideal) ℓ)

/-- The rows, and the first layer's weights. -/
def argX (c : Dev nD) : FVec Ideal S32768x64 .f32 := m ((c : Thread nD τ).loc main_arg0)
/-- The first layer's weights. -/
def argW (c : Dev nD) : FVec Ideal S64x512 .f32 := m ((c : Thread nD τ).loc main_arg2)

/-- The first layer's product at row `R`, column `d`. -/
def H (c : Dev nD) (R : Fin 32768) (d : Fin 512) : EReal := ∑ k : Fin 64, argX m c (ix2 R k) * argW m c (ix2 k d)

/-- A product block's entries. -/
theorem pay2_at (x : FVec Ideal S2048x64 .f32) (w : FVec Ideal S64x512 .f32) (r : Fin 2048) (d : Fin 512) :
    k0_pay2 x w (ix2 r d) = ∑ k : Fin 64, x (ix2 r k) * w (ix2 k d) := by
  pointwise [k0_pay2]

/-- A tile's product is its rows of the product. -/
theorem prod_at (c : Dev nD) (n : ℕ) (hn : n < 16) (r : Fin 2048) (d : Fin 512) :
    prod m c n (ix2 r d) = H m c ⟨2048 * n + r.val, by omega⟩ d := by
  unfold prod H
  refine (pay2_at _ _ r d).trans (Finset.sum_congr rfl fun k _ => ?_)
  rw [show argX m c _ = _ from (iblk0_at m c n hn r k).symm, show argW m c _ = _ from (iblk1_at m c n k d).symm]

/-- The empty pooled array. -/
theorem pay1_at (s : Fin 16) (d : Fin 512) : k0_pay1 (F := Ideal) (ix2 s d) = (⊥ : EReal) := by
  pointwise [k0_pay1]
  exact ninf

/-- After `n` tiles: the rows of segment `s` among the first `2048 n`. -/
theorem pooled_le (ha : Ascend (idxOf m)) (c : Dev nD) (s : Fin 16) (d : Fin 512) (x : EReal) (n : ℕ) (hn : n ≤ 16) :
    pooled m c n (ix2 s d) ≤ x ↔ ∀ R : Fin 32768, R.val < 2048 * n → ((idxOf m) (ix1 R)).toInt = s.val → H m c R d ≤ x := by
  induction n with
  | zero =>
    rw [show pooled m c 0 = k0_pay1 (F := Ideal) from rfl, pay1_at]
    exact iff_of_true bot_le fun R h => by omega
  | succ n ih =>
    rw [show pooled m c (n + 1) = reduceTile (tbl m) (row0 n) (prod m c n) (pooled m c n) from rfl, tbl_eq, tile_le ha n (by omega), ih (by omega)]
    constructor
    · rintro ⟨k1, k2⟩ R hR hs
      by_cases h : R.val < 2048 * n
      · exact k1 R h hs
      · have e : R = ⟨2048 * n + (⟨R.val - 2048 * n, by omega⟩ : Fin 2048).val, by simp only; omega⟩ := Fin.ext (by simp only; omega)
        rw [e] at hs ⊢
        rw [← prod_at m c n (by omega)]
        exact k2 _ hs
    · intro k
      refine ⟨fun R hR => k R (by omega), fun r hs => ?_⟩
      rw [prod_at m c n (by omega)]
      exact k _ (by simp only; omega) hs

end Cert.KernelIdeal.Seg
end
-- ==== Proof.Reference.lean ====
/-
  What the reference computes, entry by entry.
-/
module

public import proofs.«01_k».proof.Proof.Gen.ReferenceIdeal
public import proofs.«01_k».proof.Proof.Upd

@[expose] public section

set_option maxRecDepth 16384

noncomputable section

namespace Cert.ReferenceIdeal.Seg

open Cert.ReferenceIdeal Cert.ReferenceIdeal.Gen
open Idealize.ShloMosaic

variable (x : FVec Ideal S32768x64 .f32) (idx : IVec S32768 32) (w : FVec Ideal S64x512 .f32) (b1 : FVec Ideal S512 .f32)
  (w2 : FVec Ideal S512x1024 .f32) (b2 : FVec Ideal S1024 .f32)

/-- The pooled rows: for each segment and column the maximum of the first layer over the segment's rows. -/
def pooled : FVec Ideal S16x512 .f32 :=
  Host.reduce FloatOps.maximumf (select (broadcastInDim S16x32768x512 ![0, 1, 2] bcast_S16x32768x1_S16x32768x512_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 idx)) (broadcastInDim S16x32768 ![0, 1] bcast_S16x1_S16x32768_0_1 (broadcastInDim S16x1 ![0] bcast_S16_S16x1_0 (iotaInDim S16 32 0)))))) (broadcastInDim S16x32768x512 ![0, 1, 2] bcast_S1x32768x512_S16x32768x512_0_1_2 (broadcastInDim S1x32768x512 ![1, 2] bcast_S32768x512_S1x32768x512_1_2 (addf (Host.dotGeneral dot_S32768x64_S64x512_S32768x512_1_0_0_1_n_n none x w) (broadcastInDim S32768x512 ![0, 1] bcast_S1x512_S32768x512_0_1 (broadcastInDim S1x512 ![1] bcast_S512_S1x512_1 b1))))) (broadcastInDim S16x32768x512 ![] bcast_S_S16x32768x512 (id (constant S_ .f32 0xFF800000#32)))) (constant S_ .f32 0xFF800000#32) reducesTo_S16x32768x512_S16x512_d1 h_S_

open Cert.KernelIdeal.Seg in
/-- Its entries: a maximum over all rows, those of other segments counting as minus infinity. -/
theorem pooled_at (s : Fin 16) (d : Fin 512) : pooled x idx w b1 (ix2 s d) = Finset.univ.fold max (⊥ : EReal) fun R : Fin 32768 =>
    Scalar.select (IntOp.cmpi .eq (idx (ix1 R)) (BitVec.ofNat 32 s)) ((∑ k : Fin 64, x (ix2 R k) * w (ix2 k d) : EReal) + b1 (ix1 d)) ⊥ := by
  pointwise [pooled]
  rw [show (id (constant (F := Ideal) S_ .f32 4286578688#32) ix0 : EReal) = ⊥ from ninf, ninf]

/-- The second layer over the pooled rows. -/
def out (P : FVec Ideal S16x512 .f32) : FVec Ideal S16x1024 .f32 :=
  addf (Host.dotGeneral dot_S16x512_S512x1024_S16x1024_1_0_0_1_n_n none P w2) (broadcastInDim S16x1024 ![0, 1] bcast_S1x1024_S16x1024_0_1 (broadcastInDim S1x1024 ![1] bcast_S1024_S1x1024_1 b2))

/-- Its entries. -/
theorem out_at (P : FVec Ideal S16x512 .f32) (s : Fin 16) (j : Fin 1024) : out w2 b2 P (ix2 s j) = (∑ d : Fin 512, P (ix2 s d) * w2 (ix2 d j) : EReal) + b2 (ix1 j) := by
  pointwise [out]

end Cert.ReferenceIdeal.Seg
end
-- ==== Proof.Equal.lean ====
/-
  The kernel's result is the reference's, entry by entry.
-/
module

public import proofs.«01_k».proof.Proof.Pooled
public import proofs.«01_k».proof.Proof.Reference

@[expose] public section

set_option maxRecDepth 16384

noncomputable section

namespace Cert.KernelIdeal.Seg

open Cert.KernelIdeal Cert.KernelIdeal.Gen
open Idealize.ShloMosaic Idealize.ShloMosaic.TcCoe Cert.Proof

/-- The last point's second layer. -/
theorem pay13_at (P : FVec Ideal S16x512 .f32) (b1 : FVec Ideal S512 .f32) (w2 : FVec Ideal S512x1024 .f32) (b2 : FVec Ideal S1024 .f32) (s : Fin 16) (j : Fin 1024) :
    k0_pay13 (F := Ideal) P (shapeCast S1x512 b1 shapeCasts_S512_S1x512) w2 (shapeCast S1x1024 b2 shapeCasts_S1024_S1x1024) (ix2 s j)
      = (∑ d : Fin 512, (P (ix2 s d) + b1 (ix1 d)) * w2 (ix2 d j) : EReal) + b2 (ix1 j) := by
  pointwise [k0_pay13]

/-- A bias added to every row's value, before or after the maximum; rows that do not count are minus infinity. -/
theorem fold_select_add (p : Fin 32768 → BitVec 1) (h : Fin 32768 → EReal) (b : EReal) :
    Finset.univ.fold max (⊥ : EReal) (fun R => Scalar.select (p R) (h R + b) ⊥) = Finset.univ.fold max (⊥ : EReal) (fun R => Scalar.select (p R) (h R) ⊥) + b := by
  have key : ∀ S : Finset (Fin 32768), S.fold max (⊥ : EReal) (fun R => Scalar.select (p R) (h R + b) ⊥) = S.fold max (⊥ : EReal) (fun R => Scalar.select (p R) (h R) ⊥) + b := by
    classical
    intro S
    induction S using Finset.induction_on with
    | empty => simp
    | insert R S hR ih =>
      rw [Finset.fold_insert hR, Finset.fold_insert hR, ih, ← max_add_add_right]
      congr 1
      unfold Scalar.select
      split <;> simp
  exact key _

/-- A word is segment `s`. -/
theorem eq_seg (w : BitVec 32) (s : Fin 16) : w = BitVec.ofNat 32 s ↔ w.toInt = s.val := by
  rw [← toInt_ofNat_small s.val (by omega), BitVec.toInt_inj]

variable (m : (ℓ : Loc nD τ sig) → Buf (Elt Ideal) ℓ)

/-- The pooled array after all tiles, with the bias, is the reference's. -/
theorem pooled_eq (ha : Ascend (idxOf m)) (c : Dev nD) (b1 : FVec Ideal S512 .f32) (s : Fin 16) (d : Fin 512) :
    (pooled m c 16 (ix2 s d) + b1 (ix1 d) : EReal) = Cert.ReferenceIdeal.Seg.pooled (argX m c) (idxOf m) (argW m c) b1 (ix2 s d) := by
  rw [Cert.ReferenceIdeal.Seg.pooled_at, fold_select_add]
  refine congrArg (· + b1 (ix1 d)) (eq_of_forall_ge_iff fun x => ?_)
  rw [pooled_le m ha c s d x 16 le_rfl, Finset.fold_max_le]
  simp only [select_le, eq_one, eq_seg, bot_le, true_and, Finset.mem_univ, true_implies]
  exact forall_congr' fun R => ⟨fun k => k (by omega), fun k _ => k⟩

/-- The kernel's result block is the reference's. -/
theorem result_eq (ha : Ascend (idxOf m)) (c : Dev nD) (b1 : FVec Ideal S512 .f32) (w2 : FVec Ideal S512x1024 .f32) (b2 : FVec Ideal S1024 .f32)
    (h1 : m ((c : Thread nD τ).loc main_arg3) = b1) (h2 : m ((c : Thread nD τ).loc main_arg4) = w2) (h3 : m ((c : Thread nD τ).loc main_arg5) = b2) :
    result m c = Cert.ReferenceIdeal.Seg.out w2 b2 (Cert.ReferenceIdeal.Seg.pooled (argX m c) (idxOf m) (argW m c) b1) := by
  have e1 : V0r m c main_call0_v8 = shapeCast S1x512 b1 shapeCasts_S512_S1x512 := (after_b1 _).trans (by rw [← h1])
  have e2 : V0r m c main_call0_v9 = shapeCast S1x1024 b2 shapeCasts_S1024_S1x1024 := (after_b2 _).trans (by rw [← h3])
  have e3 : V0r m c main_arg4 = w2 := (V0r_arg m c main_arg4 (by decide)).trans h2
  unfold result
  rw [e1, e2, e3]
  funext i
  idx_vars i
  rw [pay13_at, Cert.ReferenceIdeal.Seg.out_at]
  exact congrArg (· + b2 (ix1 i1)) (Finset.sum_congr rfl fun d _ => by rw [pooled_eq m ha c b1 i0 d])

end Cert.KernelIdeal.Seg
end
-- ==== Proof.Value.lean ====
/-
  The claims that rest on the sorted segments: the frames again, and that kernel and reference give one value.
-/
module

public import proofs.«01_k».proof.Proof.Frames
public import proofs.«01_k».proof.Proof.Equal

@[expose] public section

noncomputable section

namespace Cert.Proof

open Idealize.ShloMosaic Idealize.SL.Sem Cert.KernelIdeal.Seg

attribute [local instance] below_facts sorted_facts

/-- The frames under the stronger precondition. -/
theorem frame_KI_sorted : Cert.quiescent_KernelIdeal_pre_segments_sorted := fun m g hpre =>
  (θ_run Cert.KernelIdeal.defs _ _).mono (fun _ h => ⟨fun c => (h.1 c).2, h.2⟩)
    (run (F := Ideal) m g (ascend_of (F := Ideal) _ _ _ _ _ _ (hpre 0)).below)

/-- The reference's frame under the stronger precondition. -/
theorem frame_RI_sorted : Cert.quiescent_ReferenceIdeal_pre_segments_sorted := fun m g _ => frame_RI m g trivial

/-- On real numbers the kernel's result is the reference's. -/
theorem equal : Cert.algebraic_KernelIdeal_ReferenceIdeal_pre_segments_sorted := by
  intro m g m' g' hpre hm
  have ha : Ascend (idxOf m) := ascend_of (F := Ideal) _ _ _ _ _ _ (hpre 0)
  refine ⟨fun c => shapeCast Cert.KernelIdeal.S16x256x4 (result m c) Cert.KernelIdeal.Gen.facts.shapeCasts_S16x1024_S16x256x4, ?_, ?_⟩
  · exact (θ_run Cert.KernelIdeal.defs _ _).mono (fun _ h => h.1) (run (F := Ideal) m g ha.below)
  · refine (θ_run Cert.ReferenceIdeal.defs _ _).mono (fun r h c => ⟨(h c).1.trans ?_, (h c).2⟩) (Cert.ReferenceIdeal.Value.run (F := Ideal) m' g')
    obtain rfl : c = 0 := Subsingleton.elim _ _
    obtain ⟨h0, h1, h2, h3, h4, h5⟩ := hm 0
    rw [h0, h1, h2, h3, h4, h5]
    exact congrArg (shapeCast Cert.KernelIdeal.S16x256x4 · _) (result_eq m ha 0 _ _ _ rfl rfl rfl).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  below_facts, sorted_facts, frame_K, frame_KI, frame_KI_sorted, frame_RI, frame_RI_sorted, trivial, equal⟩

end Cert.Proof

end
